-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x200x64 : Shape := ⟨3, ![4096, 200, 64]⟩
abbrev S4096x200x4 : Shape := ⟨3, ![4096, 200, 4]⟩
abbrev S30x64 : Shape := ⟨2, ![30, 64]⟩
abbrev S7x64 : Shape := ⟨2, ![7, 64]⟩
abbrev S24x64 : Shape := ⟨2, ![24, 64]⟩
abbrev S100000x64 : Shape := ⟨2, ![100000, 64]⟩
abbrev S64 : Shape := ⟨1, ![64]⟩
abbrev S_ : Shape := ⟨0, ![]⟩

class Facts : Prop where
  bcast_S_S4096x200x4 : S_.BroadcastsInDim S4096x200x4 (![] : Fin 0 → Fin S4096x200x4.rank)
  reducesTo_S4096x200x4_S_d0_1_2 : S4096x200x4.ReducesTo [0, 1, 2] S_
  h_S_ : 0 < S_.numel

variable [Facts]

def fn {F : FTy → Type} [FloatOps F] (main_arg0 : FVec F S4096x200x64 .f32) (main_arg1 : IVec S4096x200x4 32) (main_arg2 : FVec F S30x64 .f32) (main_arg3 : FVec F S7x64 .f32) (main_arg4 : FVec F S24x64 .f32) (main_arg5 : FVec F S100000x64 .f32) (main_arg6 : FVec F S64 .f32) (main_arg7 : FVec F S64 .f32) (main_arg8 : FVec F S64 .f32) (main_arg9 : FVec F S64 .f32) : IVec S_ 1 :=
  let main_c : IVec S_ 32 := constantI S_ 32 0#32
  let main_v0 : IVec S4096x200x4 32 := broadcastInDim S4096x200x4 ![] bcast_S_S4096x200x4 main_c
  let main_v1 : IVec S4096x200x4 1 := cmpi .sge main_arg1 main_v0
  let main_c_0 : IVec S_ 32 := constantI S_ 32 7#32
  let main_v2 : IVec S4096x200x4 32 := broadcastInDim S4096x200x4 ![] bcast_S_S4096x200x4 main_c_0
  let main_v3 : IVec S4096x200x4 1 := cmpi .slt main_arg1 main_v2
  let main_v4 : IVec S4096x200x4 1 := andi main_v1 main_v3
  let main_c_1 : IVec S_ 1 := constantI S_ 1 1#1
  let main_v5 : IVec S_ 1 := (fun x v => Host.reduce IntOp.andi x v reducesTo_S4096x200x4_S_d0_1_2 h_S_) main_v4 main_c_1
  main_v5
-- ==== Kernel.lean ====
abbrev S4096x200x64 : Shape := ⟨3, ![4096, 200, 64]⟩
abbrev S4096x200x4 : Shape := ⟨3, ![4096, 200, 4]⟩
abbrev S30x64 : Shape := ⟨2, ![30, 64]⟩
abbrev S7x64 : Shape := ⟨2, ![7, 64]⟩
abbrev S24x64 : Shape := ⟨2, ![24, 64]⟩
abbrev S100000x64 : Shape := ⟨2, ![100000, 64]⟩
abbrev S64 : Shape := ⟨1, ![64]⟩
abbrev S_ : Shape := ⟨0, ![]⟩
abbrev S8x64 : Shape := ⟨2, ![8, 64]⟩
abbrev S32x64 : Shape := ⟨2, ![32, 64]⟩
abbrev S32 : Shape := ⟨1, ![32]⟩
abbrev S32x1 : Shape := ⟨2, ![32, 1]⟩
abbrev S4 : Shape := ⟨1, ![4]⟩
abbrev S4x1 : Shape := ⟨2, ![4, 1]⟩
abbrev S1x32 : Shape := ⟨2, ![1, 32]⟩
abbrev S4x32 : Shape := ⟨2, ![4, 32]⟩
abbrev S64x64 : Shape := ⟨2, ![64, 64]⟩
abbrev S1x64 : Shape := ⟨2, ![1, 64]⟩
abbrev S64x200x64 : Shape := ⟨3, ![64, 200, 64]⟩
abbrev S64x200x4 : Shape := ⟨3, ![64, 200, 4]⟩
abbrev S12800x64 : Shape := ⟨2, ![12800, 64]⟩
abbrev S12800x4 : Shape := ⟨2, ![12800, 4]⟩
abbrev S12800x32 : Shape := ⟨2, ![12800, 32]⟩

abbrev nBuf : Space → Nat
  | .hbm => 67
  | .vmem => 13
  | .smem => 0
  | _ => 0

abbrev bufTy : (tb : Table) → Fin (tcTables nBuf tb) → BufTy
  | .hbm, ⟨0, _⟩ => ⟨S4096x200x64, .f32⟩
  | .hbm, ⟨1, _⟩ => ⟨S4096x200x4, .i32⟩
  | .hbm, ⟨2, _⟩ => ⟨S30x64, .f32⟩
  | .hbm, ⟨3, _⟩ => ⟨S7x64, .f32⟩
  | .hbm, ⟨4, _⟩ => ⟨S24x64, .f32⟩
  | .hbm, ⟨5, _⟩ => ⟨S100000x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S7x64, .f32⟩
  | .hbm, ⟨11, _⟩ => ⟨S_, .i32⟩
  | .hbm, ⟨12, _⟩ => ⟨S_, .f32⟩
  | .hbm, ⟨13, _⟩ => ⟨S8x64, .f32⟩
  | .hbm, ⟨14, _⟩ => ⟨S_, .i32⟩
  | .hbm, ⟨15, _⟩ => ⟨S_, .f32⟩
  | .hbm, ⟨16, _⟩ => ⟨S8x64, .f32⟩
  | .hbm, ⟨17, _⟩ => ⟨S7x64, .f32⟩
  | .hbm, ⟨18, _⟩ => ⟨S_, .i32⟩
  | .hbm, ⟨19, _⟩ => ⟨S_, .f32⟩
  | .hbm, ⟨20, _⟩ => ⟨S8x64, .f32⟩
  | .hbm, ⟨21, _⟩ => ⟨S7x64, .f32⟩
  | .hbm, ⟨22, _⟩ => ⟨S_, .i32⟩
  | .hbm, ⟨23, _⟩ => ⟨S_, .f32⟩
  | .hbm, ⟨24, _⟩ => ⟨S8x64, .f32⟩
  | .hbm, ⟨25, _⟩ => ⟨S32x64, .f32⟩
  | .hbm, ⟨26, _⟩ => ⟨S_, .f32⟩
  | .hbm, ⟨27, _⟩ => ⟨S32, .f32⟩
  | .hbm, ⟨28, _⟩ => ⟨S32x1, .f32⟩
  | .hbm, ⟨29, _⟩ => ⟨S_, .f32⟩
  | .hbm, ⟨30, _⟩ => ⟨S32x1, .f32⟩
  | .hbm, ⟨31, _⟩ => ⟨S32x1, .f32⟩
  | .hbm, ⟨32, _⟩ => ⟨S32x64, .f32⟩
  | .hbm, ⟨33, _⟩ => ⟨S32x64, .f32⟩
  | .hbm, ⟨34, _⟩ => ⟨S4, .i32⟩
  | .hbm, ⟨35, _⟩ => ⟨S4x1, .i32⟩
  | .hbm, ⟨36, _⟩ => ⟨S32, .i32⟩
  | .hbm, ⟨37, _⟩ => ⟨S1x32, .i32⟩
  | .hbm, ⟨38, _⟩ => ⟨S_, .i32⟩
  | .hbm, ⟨39, _⟩ => ⟨S_, .i32⟩
  | .hbm, ⟨40, _⟩ => ⟨S1x32, .i32⟩
  | .hbm, ⟨41, _⟩ => ⟨S1x32, .i32⟩
  | .hbm, ⟨42, _⟩ => ⟨S1x32, .i32⟩
  | .hbm, ⟨43, _⟩ => ⟨S_, .i32⟩
  | .hbm, ⟨44, _⟩ => ⟨S1x32, .i32⟩
  | .hbm, ⟨45, _⟩ => ⟨S1x32, .i1⟩
  | .hbm, ⟨46, _⟩ => ⟨S1x32, .i32⟩
  | .hbm, ⟨47, _⟩ => ⟨S1x32, .i32⟩
  | .hbm, ⟨48, _⟩ => ⟨S_, .i32⟩
  | .hbm, ⟨49, _⟩ => ⟨S1x32, .i32⟩
  | .hbm, ⟨50, _⟩ => ⟨S1x32, .i1⟩
  | .hbm, ⟨51, _⟩ => ⟨S1x32, .i1⟩
  | .hbm, ⟨52, _⟩ => ⟨S_, .i32⟩
  | .hbm, ⟨53, _⟩ => ⟨S1x32, .i32⟩
  | .hbm, ⟨54, _⟩ => ⟨S1x32, .i32⟩
  | .hbm, ⟨55, _⟩ => ⟨S1x32, .i32⟩
  | .hbm, ⟨56, _⟩ => ⟨S4x32, .i32⟩
  | .hbm, ⟨57, _⟩ => ⟨S4x32, .i32⟩
  | .hbm, ⟨58, _⟩ => ⟨S4x32, .i1⟩
  | .hbm, ⟨59, _⟩ => ⟨S4x32, .f32⟩
  | .hbm, ⟨60, _⟩ => ⟨S_, .f32⟩
  | .hbm, ⟨61, _⟩ => ⟨S64x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S4096x200x64, .f32⟩
  | .local _ .vmem, ⟨0, _⟩ => ⟨S64x200x64, .f32⟩
  | .local _ .vmem, ⟨1, _⟩ => ⟨S64x200x64, .f32⟩
  | .local _ .vmem, ⟨2, _⟩ => ⟨S64x200x4, .i32⟩
  | .local _ .vmem, ⟨3, _⟩ => ⟨S64x200x4, .i32⟩
  | .local _ .vmem, ⟨4, _⟩ => ⟨S4x32, .f32⟩
  | .local _ .vmem, ⟨5, _⟩ => ⟨S32x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S64x200x64, .f32⟩
  | .local _ .vmem, ⟨12, _⟩ => ⟨S64x200x64, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_v5 : Ref sig .tc := ⟨.hbm, 21, rfl⟩
abbrev main_c_2 : Ref sig .tc := ⟨.hbm, 22, rfl⟩
abbrev main_call3_v0 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_c : Ref sig .tc := ⟨.hbm, 48, rfl⟩
abbrev main_call4_v9 : Ref sig .tc := ⟨.hbm, 49, rfl⟩
abbrev main_call4_v10 : Ref sig .tc := ⟨.hbm, 50, rfl⟩
abbrev main_call4_v11 : Ref sig .tc := ⟨.hbm, 51, rfl⟩
abbrev main_call4_c_0 : Ref sig .tc := ⟨.hbm, 52, rfl⟩
abbrev main_call4_v12 : Ref sig .tc := ⟨.hbm, 53, rfl⟩
abbrev main_call4_v13 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_5 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x200x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x200x64 : Shape := ⟨3, ![4096, 200, 64]⟩
abbrev S4096x200x4 : Shape := ⟨3, ![4096, 200, 4]⟩
abbrev S30x64 : Shape := ⟨2, ![30, 64]⟩
abbrev S7x64 : Shape := ⟨2, ![7, 64]⟩
abbrev S24x64 : Shape := ⟨2, ![24, 64]⟩
abbrev S100000x64 : Shape := ⟨2, ![100000, 64]⟩
abbrev S64 : Shape := ⟨1, ![64]⟩
abbrev S4096x200x1 : Shape := ⟨3, ![4096, 200, 1]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S4096x200x1x64 : Shape := ⟨4, ![4096, 200, 1, 64]⟩
abbrev S4096x200x4x64 : Shape := ⟨4, ![4096, 200, 4, 64]⟩
abbrev S1x1x64 : Shape := ⟨3, ![1, 1, 64]⟩

abbrev nBuf : Space → Nat
  | .hbm => 206
  | .vmem => 0
  | .smem => 0
  | _ => 0

abbrev hbmTy0_0 (i : Nat) : BufTy := match i % 128 with
  | 0 => ⟨S4096x200x64, .f32⟩
  | 1 => ⟨S4096x200x4, .i32⟩
  | 2 => ⟨S30x64, .f32⟩
  | 3 => ⟨S7x64, .f32⟩
  | 4 => ⟨S24x64, .f32⟩
  | 5 => ⟨S100000x64, .f32⟩
  | 6 => ⟨S64, .f32⟩
  | 7 => ⟨S64, .f32⟩
  | 8 => ⟨S64, .f32⟩
  | 9 => ⟨S64, .f32⟩
  | 10 => ⟨S4096x200x1, .i32⟩
  | 11 => ⟨S4096x200, .i32⟩
  | 12 => ⟨S_, .i32⟩
  | 13 => ⟨S4096x200, .i32⟩
  | 14 => ⟨S4096x200, .i1⟩
  | 15 => ⟨S_, .i32⟩
  | 16 => ⟨S4096x200, .i32⟩
  | 17 => ⟨S4096x200, .i32⟩
  | 18 => ⟨S4096x200, .i32⟩
  | 19 => ⟨S4096x200x1, .i32⟩
  | 20 => ⟨S1, .i32⟩
  | 21 => ⟨S_, .i32⟩
  | 22 => ⟨S4096x200x1, .i32⟩
  | 23 => ⟨S4096x200x1, .i1⟩
  | 24 => ⟨S1x1x1, .i32⟩
  | 25 => ⟨S4096x200x1, .i32⟩
  | 26 => ⟨S4096x200x1, .i1⟩
  | 27 => ⟨S4096x200x1, .i1⟩
  | 28 => ⟨S_, .i1⟩
  | 29 => ⟨S4096x200, .i1⟩
  | 30 => ⟨S4096x200x64, .f32⟩
  | 31 => ⟨S4096x200x64, .i1⟩
  | 32 => ⟨S_, .f32⟩
  | 33 => ⟨S4096x200x64, .f32⟩
  | 34 => ⟨S4096x200x64, .f32⟩
  | 35 => ⟨S4096x200x1, .i32⟩
  | 36 => ⟨S4096x200, .i32⟩
  | 37 => ⟨S_, .i32⟩
  | 38 => ⟨S4096x200, .i32⟩
  | 39 => ⟨S4096x200, .i1⟩
  | 40 => ⟨S_, .i32⟩
  | 41 => ⟨S4096x200, .i32⟩
  | 42 => ⟨S4096x200, .i32⟩
  | 43 => ⟨S4096x200, .i32⟩
  | 44 => ⟨S4096x200x1, .i32⟩
  | 45 => ⟨S1, .i32⟩
  | 46 => ⟨S_, .i32⟩
  | 47 => ⟨S4096x200x1, .i32⟩
  | 48 => ⟨S4096x200x1, .i1⟩
  | 49 => ⟨S1x1x1, .i32⟩
  | 50 => ⟨S4096x200x1, .i32⟩
  | 51 => ⟨S4096x200x1, .i1⟩
  | 52 => ⟨S4096x200x1, .i1⟩
  | 53 => ⟨S_, .i1⟩
  | 54 => ⟨S4096x200, .i1⟩
  | 55 => ⟨S4096x200x64, .f32⟩
  | 56 => ⟨S4096x200x64, .i1⟩
  | 57 => ⟨S_, .f32⟩
  | 58 => ⟨S4096x200x64, .f32⟩
  | 59 => ⟨S4096x200x64, .f32⟩
  | 60 => ⟨S4096x200x1, .i32⟩
  | 61 => ⟨S4096x200, .i32⟩
  | 62 => ⟨S_, .i32⟩
  | 63 => ⟨S4096x200, .i32⟩
  | 64 => ⟨S4096x200, .i1⟩
  | 65 => ⟨S_, .i32⟩
  | 66 => ⟨S4096x200, .i32⟩
  | 67 => ⟨S4096x200, .i32⟩
  | 68 => ⟨S4096x200, .i32⟩
  | 69 => ⟨S4096x200x1, .i32⟩
  | 70 => ⟨S1, .i32⟩
  | 71 => ⟨S_, .i32⟩
  | 72 => ⟨S4096x200x1, .i32⟩
  | 73 => ⟨S4096x200x1, .i1⟩
  | 74 => ⟨S1x1x1, .i32⟩
  | 75 => ⟨S4096x200x1, .i32⟩
  | 76 => ⟨S4096x200x1, .i1⟩
  | 77 => ⟨S4096x200x1, .i1⟩
  | 78 => ⟨S_, .i1⟩
  | 79 => ⟨S4096x200, .i1⟩
  | 80 => ⟨S4096x200x64, .f32⟩
  | 81 => ⟨S4096x200x64, .i1⟩
  | 82 => ⟨S_, .f32⟩
  | 83 => ⟨S4096x200x64, .f32⟩
  | 84 => ⟨S4096x200x64, .f32⟩
  | 85 => ⟨S4096x200x1, .i32⟩
  | 86 => ⟨S4096x200, .i32⟩
  | 87 => ⟨S_, .i32⟩
  | 88 => ⟨S4096x200, .i32⟩
  | 89 => ⟨S4096x200, .i1⟩
  | 90 => ⟨S_, .i32⟩
  | 91 => ⟨S4096x200, .i32⟩
  | 92 => ⟨S4096x200, .i32⟩
  | 93 => ⟨S4096x200, .i32⟩
  | 94 => ⟨S4096x200x1, .i32⟩
  | 95 => ⟨S1, .i32⟩
  | 96 => ⟨S_, .i32⟩
  | 97 => ⟨S4096x200x1, .i32⟩
  | 98 => ⟨S4096x200x1, .i1⟩
  | 99 => ⟨S1x1x1, .i32⟩
  | 100 => ⟨S4096x200x1, .i32⟩
  | 101 => ⟨S4096x200x1, .i1⟩
  | 102 => ⟨S4096x200x1, .i1⟩
  | 103 => ⟨S_, .i1⟩
  | 104 => ⟨S4096x200, .i1⟩
  | 105 => ⟨S4096x200x64, .f32⟩
  | 106 => ⟨S4096x200x64, .i1⟩
  | 107 => ⟨S_, .f32⟩
  | 108 => ⟨S4096x200x64, .f32⟩
  | 109 => ⟨S4096x200x64, .f32⟩
  | 110 => ⟨S4096x200x1x64, .f32⟩
  | 111 => ⟨S4096x200x1x64, .f32⟩
  | 112 => ⟨S4096x200x1x64, .f32⟩
  | 113 => ⟨S4096x200x1x64, .f32⟩
  | 114 => ⟨S4096x200x4x64, .f32⟩
  | 115 => ⟨S_, .f32⟩
  | 116 => ⟨S4096x200x64, .f32⟩
  | 117 => ⟨S_, .f32⟩
  | 118 => ⟨S4096x200, .f32⟩
  | 119 => ⟨S4096x200x1, .f32⟩
  | 120 => ⟨S_, .f32⟩
  | 121 => ⟨S4096x200x1, .f32⟩
  | 122 => ⟨S4096x200x1, .f32⟩
  | 123 => ⟨S_, .i32⟩
  | 124 => ⟨S_, .f32⟩
  | 125 => ⟨S4096x200, .f32⟩
  | 126 => ⟨S4096x200x1, .f32⟩
  | 127 => ⟨S_, .f32⟩
  | _ => ⟨S4096x200x64, .f32⟩

abbrev hbmTy0_1 (i : Nat) : BufTy := match i % 128 with
  | 0 => ⟨S4096x200x1, .f32⟩
  | 1 => ⟨S4096x200x1, .f32⟩
  | 2 => ⟨S4096x200x64, .f32⟩
  | 3 => ⟨S4096x200x64, .f32⟩
  | 4 => ⟨S4096x200x64, .f32⟩
  | 5 => ⟨S_, .f32⟩
  | 6 => ⟨S_, .f32⟩
  | 7 => ⟨S_, .f32⟩
  | 8 => ⟨S_, .f32⟩
  | 9 => ⟨S4096x200, .f32⟩
  | 10 => ⟨S4096x200x1, .f32⟩
  | 11 => ⟨S4096x200x1, .f32⟩
  | 12 => ⟨S4096x200x1, .f32⟩
  | 13 => ⟨S_, .f32⟩
  | 14 => ⟨S_, .i1⟩
  | 15 => ⟨S_, .f32⟩
  | 16 => ⟨S_, .f32⟩
  | 17 => ⟨S4096x200x1, .f32⟩
  | 18 => ⟨S4096x200x1, .f32⟩
  | 19 => ⟨S4096x200x64, .f32⟩
  | 20 => ⟨S4096x200x64, .f32⟩
  | 21 => ⟨S_, .f32⟩
  | 22 => ⟨S4096x200x1, .f32⟩
  | 23 => ⟨S4096x200x1, .f32⟩
  | 24 => ⟨S4096x200x1, .f32⟩
  | 25 => ⟨S4096x200x64, .f32⟩
  | 26 => ⟨S4096x200x64, .f32⟩
  | 27 => ⟨S1x1x64, .f32⟩
  | 28 => ⟨S4096x200x64, .f32⟩
  | 29 => ⟨S4096x200x64, .f32⟩
  | 30 => ⟨S1x1x64, .f32⟩
  | 31 => ⟨S4096x200x64, .f32⟩
  | 32 => ⟨S4096x200x64, .f32⟩
  | 33 => ⟨S4096x200x64, .f32⟩
  | 34 => ⟨S_, .f32⟩
  | 35 => ⟨S4096x200, .f32⟩
  | 36 => ⟨S4096x200x1, .f32⟩
  | 37 => ⟨S_, .f32⟩
  | 38 => ⟨S4096x200x1, .f32⟩
  | 39 => ⟨S4096x200x1, .f32⟩
  | 40 => ⟨S_, .i32⟩
  | 41 => ⟨S_, .f32⟩
  | 42 => ⟨S4096x200, .f32⟩
  | 43 => ⟨S4096x200x1, .f32⟩
  | 44 => ⟨S_, .f32⟩
  | 45 => ⟨S4096x200x1, .f32⟩
  | 46 => ⟨S4096x200x1, .f32⟩
  | 47 => ⟨S4096x200x64, .f32⟩
  | 48 => ⟨S4096x200x64, .f32⟩
  | 49 => ⟨S4096x200x64, .f32⟩
  | 50 => ⟨S_, .f32⟩
  | 51 => ⟨S_, .f32⟩
  | 52 => ⟨S_, .f32⟩
  | 53 => ⟨S_, .f32⟩
  | 54 => ⟨S4096x200, .f32⟩
  | 55 => ⟨S4096x200x1, .f32⟩
  | 56 => ⟨S4096x200x1, .f32⟩
  | 57 => ⟨S4096x200x1, .f32⟩
  | 58 => ⟨S_, .f32⟩
  | 59 => ⟨S_, .i1⟩
  | 60 => ⟨S_, .f32⟩
  | 61 => ⟨S_, .f32⟩
  | 62 => ⟨S4096x200x1, .f32⟩
  | 63 => ⟨S4096x200x1, .f32⟩
  | 64 => ⟨S4096x200x64, .f32⟩
  | 65 => ⟨S4096x200x64, .f32⟩
  | 66 => ⟨S_, .f32⟩
  | 67 => ⟨S4096x200x1, .f32⟩
  | 68 => ⟨S4096x200x1, .f32⟩
  | 69 => ⟨S4096x200x1, .f32⟩
  | 70 => ⟨S4096x200x64, .f32⟩
  | 71 => ⟨S4096x200x64, .f32⟩
  | 72 => ⟨S1x1x64, .f32⟩
  | 73 => ⟨S4096x200x64, .f32⟩
  | 74 => ⟨S4096x200x64, .f32⟩
  | 75 => ⟨S1x1x64, .f32⟩
  | 76 => ⟨S4096x200x64, .f32⟩
  | 77 => ⟨S4096x200x64, .f32⟩
  | _ => ⟨S4096x200x64, .f32⟩

abbrev hbmTy (i : Nat) : BufTy := match i / 128 with
  | 0 => hbmTy0_0 i
  | 1 => hbmTy0_1 i
  | _ => ⟨S4096x200x64, .f32⟩

abbrev bufTy : (tb : Table) → Fin (tcTables nBuf tb) → BufTy
  | .hbm, ⟨i, _⟩ => hbmTy i
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v11 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_v15 : Ref sig .tc := ⟨.hbm, 113, rfl⟩
abbrev main_v16 : Ref sig .tc := ⟨.hbm, 114, rfl⟩
abbrev main_cst : Ref sig .tc := ⟨.hbm, 115, rfl⟩
abbrev main_v17 : Ref sig .tc := ⟨.hbm, 116, rfl⟩
abbrev main_cst_0 : Ref sig .tc := ⟨.hbm, 117, rfl⟩
abbrev main_v18 : Ref sig .tc := ⟨.hbm, 118, rfl⟩
abbrev main_v19 : Ref sig .tc := ⟨.hbm, 119, rfl⟩
abbrev main_cst_1 : Ref sig .tc := ⟨.hbm, 120, rfl⟩
abbrev main_v20 : Ref sig .tc := ⟨.hbm, 121, rfl⟩
abbrev main_v21 : Ref sig .tc := ⟨.hbm, 122, rfl⟩
abbrev main_c : Ref sig .tc := ⟨.hbm, 123, rfl⟩
abbrev main_call4_cst : Ref sig .tc := ⟨.hbm, 124, rfl⟩
abbrev main_call4_v0 : Ref sig .tc := ⟨.hbm, 125, rfl⟩
abbrev main_call4_v1 : Ref sig .tc := ⟨.hbm, 126, rfl⟩
abbrev main_call4_cst_0 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_v6 : Ref sig .tc := ⟨.hbm, 132, rfl⟩
abbrev main_call4_v7 : Ref sig .tc := ⟨.hbm, 133, rfl⟩
abbrev main_call4_cst_1 : Ref sig .tc := ⟨.hbm, 134, rfl⟩
abbrev main_call4_v8 : Ref sig .tc := ⟨.hbm, 135, rfl⟩
abbrev main_call4_cst_2 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_v12 : Ref sig .tc := ⟨.hbm, 140, rfl⟩
abbrev main_call4_cst_3 : Ref sig .tc := ⟨.hbm, 141, rfl⟩
abbrev main_call4_v13 : Ref sig .tc := ⟨.hbm, 142, rfl⟩
abbrev main_call4_cst_4 : Ref sig .tc := ⟨.hbm, 143, rfl⟩
abbrev main_call4_call0_v0 : Ref sig .tc := ⟨.hbm, 144, rfl⟩
abbrev main_call4_call0_v1 : Ref sig .tc := ⟨.hbm, 145, rfl⟩
abbrev main_v22 : Ref sig .tc := ⟨.hbm, 146, rfl⟩
abbrev main_v23 : Ref sig .tc := ⟨.hbm, 147, rfl⟩
abbrev main_v24 : Ref sig .tc := ⟨.hbm, 148, rfl⟩
abbrev main_cst_2 : Ref sig .tc := ⟨.hbm, 149, rfl⟩
abbrev main_v25 : Ref sig .tc := ⟨.hbm, 150, rfl⟩
abbrev main_v26 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_cst_3 : Ref sig .tc := ⟨.hbm, 162, rfl⟩
abbrev main_v37 : Ref sig .tc := ⟨.hbm, 163, rfl⟩
abbrev main_v38 : Ref sig .tc := ⟨.hbm, 164, rfl⟩
abbrev main_cst_4 : Ref sig .tc := ⟨.hbm, 165, rfl⟩
abbrev main_v39 : Ref sig .tc := ⟨.hbm, 166, rfl⟩
abbrev main_v40 : Ref sig .tc := ⟨.hbm, 167, rfl⟩
abbrev main_c_5 : Ref sig .tc := ⟨.hbm, 168, rfl⟩
abbrev main_call5_cst : Ref sig .tc := ⟨.hbm, 169, rfl⟩
abbrev main_call5_v0 : Ref sig .tc := ⟨.hbm, 170, rfl⟩
abbrev main_call5_v1 : Ref sig .tc := ⟨.hbm, 171, rfl⟩
abbrev main_call5_cst_0 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_call5_v5 : Ref sig .tc := ⟨.hbm, 176, rfl⟩
abbrev main_call5_v6 : Ref sig .tc := ⟨.hbm, 177, rfl⟩
abbrev main_call5_v7 : Ref sig .tc := ⟨.hbm, 178, rfl⟩
abbrev main_call5_cst_1 : Ref sig .tc := ⟨.hbm, 179, rfl⟩
abbrev main_call5_v8 : Ref sig .tc := ⟨.hbm, 180, rfl⟩
abbrev main_call5_cst_2 : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_call5_v12 : Ref sig .tc := ⟨.hbm, 185, rfl⟩
abbrev main_call5_cst_3 : Ref sig .tc := ⟨.hbm, 186, rfl⟩
abbrev main_call5_v13 : Ref sig .tc := ⟨.hbm, 187, rfl⟩
abbrev main_call5_cst_4 : Ref sig .tc := ⟨.hbm, 188, rfl⟩
abbrev main_call5_call0_v0 : Ref sig .tc := ⟨.hbm, 189, rfl⟩
abbrev main_call5_call0_v1 : Ref sig .tc := ⟨.hbm, 190, rfl⟩
abbrev main_v41 : Ref sig .tc := ⟨.hbm, 191, rfl⟩
abbrev main_v42 : Ref sig .tc := ⟨.hbm, 192, rfl⟩
abbrev main_v43 : Ref sig .tc := ⟨.hbm, 193, rfl⟩
abbrev main_cst_6 : Ref sig .tc := ⟨.hbm, 194, rfl⟩
abbrev main_v44 : Ref sig .tc := ⟨.hbm, 195, rfl⟩
abbrev main_v45 : Ref sig .tc := ⟨.hbm, 196, rfl⟩
abbrev main_v46 : Ref sig .tc := ⟨.hbm, 197, rfl⟩
abbrev main_v47 : Ref sig .tc := ⟨.hbm, 198, rfl⟩
abbrev main_v48 : Ref sig .tc := ⟨.hbm, 199, rfl⟩
abbrev main_v49 : Ref sig .tc := ⟨.hbm, 200, rfl⟩
abbrev main_v50 : Ref sig .tc := ⟨.hbm, 201, rfl⟩
abbrev main_v51 : Ref sig .tc := ⟨.hbm, 202, rfl⟩
abbrev main_v52 : Ref sig .tc := ⟨.hbm, 203, rfl⟩
abbrev main_v53 : Ref sig .tc := ⟨.hbm, 204, rfl⟩
abbrev main_v54 : Ref sig .tc := ⟨.hbm, 205, rfl⟩

abbrev nD : Nat := 1
abbrev τ : Topo := Topo.v7x

variable {F : FTy → Type} [FloatOps F]
-- ==== Proof.LayerNorm.lean ====
/-
  A layer normalisation over 64 extended reals, and the one fact about it that the equation rests on: the normalisation of
  a sum of four rows may centre the sum, or sum the centred rows. Over the reals the two centred rows are equal; where an
  entry is infinite both are infinite everywhere, and the normalised row is the bias alone.
-/
module

public import Idealize.ShloMosaic.PureOps.Ideal

@[expose] public section

noncomputable section

namespace Cert.LayerNorm

open Idealize.ShloMosaic

/-- One sixty-fourth. -/
def kap : EReal := ((1 / 64 : ℝ) : EReal)

/-- The small constant added to a variance. -/
def eps : EReal := Ideal.ofBits .f32 0x358637BD#32

/-- A row less its mean. -/
def cen (x : Fin 64 → EReal) (j : Fin 64) : EReal := x j - (∑ k, x k) * kap

/-- A centred row divided by its deviation, scaled and shifted. -/
def nrm (c s b : Fin 64 → EReal) (j : Fin 64) : EReal :=
  c j * Ideal.rsqrt ((∑ k, c k * c k) * kap + eps) * s j + b j

/-! ## The literal words -/

/-- The word of `64.0` is the number 64. -/
theorem ofBits_64 : Ideal.ofBits .f32 0x42800000#32 = ((64 : ℝ) : EReal) := by
  simp [Ideal.ofBits, Ideal.ieee, -EReal.coe_mul]
  norm_num

/-- The word of `1/64` is one sixty-fourth. -/
theorem ofBits_64th : Ideal.ofBits .f32 0x3C800000#32 = kap := by
  unfold kap
  simp [Ideal.ofBits, Ideal.ieee, -EReal.coe_mul]
  norm_num

/-- The small constant is a real number. -/
theorem eps_ne_bot : eps ≠ ⊥ := by
  have h : eps = ((8796093 / 2 ^ 43 : ℝ) : EReal) := by
    unfold eps
    simp [Ideal.ofBits, Ideal.ieee, -EReal.coe_mul]
    norm_num
  rw [h]
  exact EReal.coe_ne_bot _

/-! ## Infinite values -/

/-- A value that is not a real number. -/
def Inf (x : EReal) : Prop := x = ⊤ ∨ x = ⊥

/-- A real number is not infinite. -/
theorem inf_coe (r : ℝ) : ¬ Inf (r : EReal) := by
  rintro (h | h)
  · exact EReal.coe_ne_top r h
  · exact EReal.coe_ne_bot r h

/-- A value that is not infinite is a real number. -/
theorem exists_coe {x : EReal} (h : ¬ Inf x) : ∃ r : ℝ, x = (r : EReal) := by
  induction x with
  | bot => exact absurd (Or.inr rfl) h
  | top => exact absurd (Or.inl rfl) h
  | coe r => exact ⟨r, rfl⟩

/-- A sum of two values is infinite exactly when one of them is. -/
theorem inf_add (a b : EReal) : Inf (a + b) ↔ Inf a ∨ Inf b := by
  induction a with
  | bot => simp [Inf]
  | top =>
    induction b with
    | bot => simp [Inf]
    | top => simp [Inf]
    | coe r => simp [Inf]
  | coe q =>
    induction b with
    | bot => simp [Inf]
    | top => simp [Inf]
    | coe r =>
      rw [← EReal.coe_add]
      simp only [inf_coe, or_self]

/-- A negated value is infinite exactly when the value is. -/
theorem inf_neg (a : EReal) : Inf (-a) ↔ Inf a := by
  unfold Inf
  rw [EReal.neg_eq_top_iff, EReal.neg_eq_bot_iff]
  exact Or.comm

/-- A sixty-fourth of a value is infinite exactly when the value is. -/
theorem inf_mul_kap (a : EReal) : Inf (a * kap) ↔ Inf a := by
  have hk : (0 : ℝ) < 1 / 64 := by norm_num
  unfold kap
  induction a with
  | bot => rw [EReal.bot_mul_coe_of_pos hk]
  | top => rw [EReal.top_mul_coe_of_pos hk]
  | coe r =>
    rw [← EReal.coe_mul]
    simp only [inf_coe]

/-- A finite sum is infinite exactly when some summand is. -/
theorem inf_sum {ι : Type} (s : Finset ι) (f : ι → EReal) : Inf (∑ i ∈ s, f i) ↔ ∃ i ∈ s, Inf (f i) := by
  classical
  induction s using Finset.induction_on with
  | empty =>
    simp only [Finset.sum_empty, Finset.notMem_empty, false_and, exists_false, iff_false]
    exact inf_coe 0
  | insert a s ha ih =>
    rw [Finset.sum_insert ha, inf_add, ih, Finset.exists_mem_insert]

/-- An entry of a centred row is infinite exactly when some entry of the row is. -/
theorem inf_cen (x : Fin 64 → EReal) (j : Fin 64) : Inf (cen x j) ↔ ∃ k, Inf (x k) := by
  unfold cen
  rw [sub_eq_add_neg, inf_add, inf_neg, inf_mul_kap, inf_sum]
  constructor
  · rintro (h | ⟨k, _, h⟩)
    · exact ⟨j, h⟩
    · exact ⟨k, h⟩
  · rintro ⟨k, h⟩
    exact Or.inr ⟨k, Finset.mem_univ k, h⟩

/-- A row whose entries are all infinite normalises to the bias. -/
theorem nrm_of_inf (c s b : Fin 64 → EReal) (h : ∀ k, Inf (c k)) (j : Fin 64) : nrm c s b j = b j := by
  have hsq : ∀ k, c k * c k = ⊤ := by
    intro k
    rcases h k with hk | hk <;> rw [hk] <;> rfl
  have hsum : (∑ k, c k * c k) = ⊤ := by
    rw [Finset.sum_congr rfl fun k _ => hsq k, Finset.sum_const, Finset.card_univ, Fintype.card_fin]
    have : ∀ n : ℕ, (n + 1) • (⊤ : EReal) = ⊤ := by
      intro n
      induction n with
      | zero => rw [zero_add, one_smul]
      | succ n ih => rw [add_smul, ih, one_smul]; rfl
    exact this 63
  have hk : (0 : ℝ) < 1 / 64 := by norm_num
  unfold nrm
  rw [hsum, show (⊤ : EReal) * kap = ⊤ from EReal.top_mul_coe_of_pos hk, EReal.top_add_of_ne_bot eps_ne_bot,
    show Ideal.rsqrt ⊤ = 0 from rfl, mul_zero, zero_mul, zero_add]

/-! ## Sums -/

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The mean as a sum of sixty-fourths. -/
theorem sum_mul_kap {ι : Type} (s : Finset ι) (f : ι → EReal) : ∑ i ∈ s, f i * kap = (∑ i ∈ s, f i) * kap := by
  classical
  have h0 : (0 : EReal) ≤ kap := EReal.coe_nonneg.2 (by norm_num)
  have ht : kap ≠ ⊤ := EReal.coe_ne_top _
  induction s using Finset.induction_on with
  | empty => rw [Finset.sum_empty, Finset.sum_empty, zero_mul]
  | insert a s ha ih =>
    rw [Finset.sum_insert ha, Finset.sum_insert ha, ih, EReal.right_distrib_of_nonneg_of_ne_top h0 ht]

/-- A quotient by the word of `64.0` is a product with one sixty-fourth. -/
theorem div_64 (x : EReal) : Ideal.div x (Ideal.ofBits .f32 0x42800000#32) = x * kap := by
  rw [ofBits_64]
  exact Ideal.div_coe (by norm_num) x

/-! ## The centred sum and the sum of centred rows -/

/-- Over the reals the centred sum of four rows is the sum of the centred rows. -/
theorem cen_sum_coe (r : Fin 4 → Fin 64 → ℝ) (j : Fin 64) :
    cen (fun k => ∑ t, ((r t k : ℝ) : EReal)) j = ∑ t, cen (fun k => ((r t k : ℝ) : EReal)) j := by
  unfold cen kap
  simp only [← coe_sum, ← EReal.coe_mul, ← EReal.coe_sub]
  congr 1
  rw [Finset.sum_comm, Finset.sum_sub_distrib, Finset.sum_mul]

/-- Normalising the centred sum of four rows is normalising the sum of the centred rows. -/
theorem nrm_cen_sum (e : Fin 4 → Fin 64 → EReal) (s b : Fin 64 → EReal) (j : Fin 64) :
    nrm (cen fun k => ∑ t, e t k) s b j = nrm (fun k => ∑ t, cen (e t) k) s b j := by
  by_cases h : ∃ t k, Inf (e t k)
  · obtain ⟨t, k, hk⟩ := h
    rw [nrm_of_inf, nrm_of_inf]
    · intro i
      rw [inf_sum]
      exact ⟨t, Finset.mem_univ t, (inf_cen _ i).2 ⟨k, hk⟩⟩
    · intro i
      rw [inf_cen]
      exact ⟨k, (inf_sum _ _).2 ⟨t, Finset.mem_univ t, hk⟩⟩
  · have hr : ∀ t k, ∃ r : ℝ, e t k = (r : EReal) := fun t k => exists_coe fun hk => h ⟨t, k, hk⟩
    choose r hr using hr
    have he : e = fun t k => ((r t k : ℝ) : EReal) := funext fun t => funext fun k => hr t k
    have hc : (cen fun k => ∑ t, e t k) = fun k => ∑ t, cen (e t) k := by
      funext k
      rw [he]
      exact cen_sum_coe r k
    rw [hc]

end Cert.LayerNorm

end
-- ==== Proof.Block.lean ====
/-
  What one block of the kernel computes, read at an index: the block's rows of context and index words, the lookup of the
  index words in the joint table by a one-hot product, and the two normalisations.
-/
module

public import proofs.«01_k».proof.Proof.Gen.KernelIdeal.Skeleton
public import proofs.«01_k».proof.Proof.LayerNorm
public import Idealize.ShloMosaic.Lib.Pointwise

@[expose] public section

set_option maxRecDepth 16384

noncomputable section

namespace Cert.KernelIdeal.Block

open Cert.KernelIdeal Cert.KernelIdeal.Gen Cert.LayerNorm Idealize.ShloMosaic

/-- Lane `l` of the one-hot row of a position: 1 where the spread index equals the lane's number within its group of
    eight, 0 elsewhere. -/
def hot (w : Fin 4 → BitVec 32) (p : Vec Ideal S4x32 .f32) (l : Fin 32) : EReal :=
  FloatOps.sitofp (F := Ideal) .f32 (BitVec.setWidth 32 (BitVec.ofBool (decide
    (∑ k, FloatOps.sitofp (F := Ideal) .f32 (w k) * p (ix2 k l)
      = FloatOps.sitofp (F := Ideal) .f32 (IntOp.andi (BitVec.ofNat 32 l.val) 7#32)))))

/-- The one-hot row times the table. -/
def lookup (w : Fin 4 → BitVec 32) (p : Vec Ideal S4x32 .f32) (tbl : Vec Ideal S32x64 .f32) (j : Fin 64) : EReal :=
  ∑ l, hot w p l * tbl (ix2 l j)

/-- The centred second row of the block, at row `n` of the flattened block. -/
theorem pay3_apply (v0 : Vec Ideal S64x200x64 .f32) (v2 : Vec Ideal S64x200x4 .i32) (v5 : Vec Ideal S4x32 .f32)
    (v7 : Vec Ideal S32x64 .f32) (v9 : Vec Ideal S64x64 .f32) (v26 v30 : Vec Ideal S1x64 .f32)
    (h9 : ∀ k j, v9 (ix2 k j) = kap) (n : Fin 12800) (j : Fin 64) (b : Fin 64) (s : Fin 200)
    (hn : n.val = b.val * 200 + s.val) :
    k0_pay3 (F := Ideal) v0 v2 v5 v7 v9 v26 v30 (ix2 n j)
      = cen (fun k => v0 (ix3 b s k)
          + nrm (lookup (fun t => v2 (ix3 b s t)) v5 v7) (fun i => v26 (ix2 0 i)) (fun i => v30 (ix2 0 i)) k) j := by
  have hb : (⟨n.val / 200, by have := n.isLt; omega⟩ : Fin 64) = b := Fin.ext (by have := s.isLt; show n.val / 200 = b.val; omega)
  have hs : (⟨n.val % 200, by omega⟩ : Fin 200) = s := Fin.ext (by have := s.isLt; show n.val % 200 = s.val; omega)
  pointwise [k0_pay3, k0_pay2]
  simp only [hb, hs, h9, sum_mul_kap]
  rfl

/-- The block's result at row `(b, s)`, feature `j`. -/
theorem block_apply (v0 : Vec Ideal S64x200x64 .f32) (v2 : Vec Ideal S64x200x4 .i32) (v5 : Vec Ideal S4x32 .f32)
    (v7 : Vec Ideal S32x64 .f32) (v9 : Vec Ideal S64x64 .f32) (v26 v30 v43 v47 : Vec Ideal S1x64 .f32)
    (h9 : ∀ k j, v9 (ix2 k j) = kap) (b : Fin 64) (s : Fin 200) (j : Fin 64) :
    k0_pay1 (F := Ideal) (k0_pay2 v9) (k0_pay3 v0 v2 v5 v7 v9 v26 v30) v43 v47 (ix3 b s j)
      = nrm (cen fun k => v0 (ix3 b s k)
          + nrm (lookup (fun t => v2 (ix3 b s t)) v5 v7) (fun i => v26 (ix2 0 i)) (fun i => v30 (ix2 0 i)) k)
        (fun i => v43 (ix2 0 i)) (fun i => v47 (ix2 0 i)) j := by
  have h3 := fun i => pay3_apply v0 v2 v5 v7 v9 v26 v30 h9 ⟨b.val * 200 + s.val, by have := b.isLt; have := s.isLt; omega⟩ i b s rfl
  generalize k0_pay3 (F := Ideal) v0 v2 v5 v7 v9 v26 v30 = c at h3 ⊢
  pointwise [k0_pay1, k0_pay2]
  simp only [h9, sum_mul_kap, h3]
  rfl

/-! ## The lookup -/

/-- An integer word as a value is its number. -/
theorem sitofp_eq (w : BitVec 32) : FloatOps.sitofp (F := Ideal) .f32 w = ((w.toInt : ℝ) : EReal) := rfl

/-- The lanes' numbers within their groups. -/
theorem lane_andi (t : Fin 4) (r : Fin 8) :
    IntOp.andi (BitVec.ofNat 32 (8 * t.val + r.val)) 7#32 = BitVec.ofNat 32 r.val := by
  revert t r
  decide +kernel

/-- A lane's one-hot value: 1 where the group's index word is the lane's number, 0 elsewhere. -/
theorem hot_eq (w : Fin 4 → BitVec 32) (p : Vec Ideal S4x32 .f32)
    (hp : ∀ (k : Fin 4) (l : Fin 32), p (ix2 k l) = if l.val / 8 = k.val then 1 else 0) (t : Fin 4) (r : Fin 8)
    (h : 8 * t.val + r.val < 32) (hw : (w t).toNat < 7) :
    hot w p ⟨8 * t.val + r.val, h⟩ = if (w t).toNat = r.val then 1 else 0 := by
  have hsum : ∑ k, FloatOps.sitofp (F := Ideal) .f32 (w k) * p (ix2 k ⟨8 * t.val + r.val, h⟩)
      = FloatOps.sitofp (F := Ideal) .f32 (w t) := by
    rw [Finset.sum_eq_single t]
    · rw [hp, if_pos (by show (8 * t.val + r.val) / 8 = t.val; omega)]
      exact mul_one (M := EReal) _
    · intro k _ hk
      rw [hp, if_neg (by
        intro e
        apply hk
        apply Fin.ext
        have e' : (8 * t.val + r.val) / 8 = k.val := e
        omega)]
      exact mul_zero (M₀ := EReal) _
    · intro ht
      exact absurd (Finset.mem_univ t) ht
  have hr : (BitVec.ofNat 32 r.val).toNat = r.val := by
    rw [BitVec.toNat_ofNat]
    omega
  unfold hot
  rw [hsum, lane_andi]
  have hiff : FloatOps.sitofp (F := Ideal) .f32 (w t) = FloatOps.sitofp (F := Ideal) .f32 (BitVec.ofNat 32 r.val)
      ↔ (w t).toNat = r.val := by
    rw [sitofp_eq, sitofp_eq]
    constructor
    · intro he
      have h1 : (w t).toInt = (BitVec.ofNat 32 r.val).toInt := by exact_mod_cast EReal.coe_injective he
      rw [BitVec.eq_of_toInt_eq h1, hr]
    · intro e
      rw [show w t = BitVec.ofNat 32 r.val from BitVec.eq_of_toNat_eq (by rw [hr, e])]
  rw [decide_eq_decide.2 hiff]
  by_cases e : (w t).toNat = r.val
  · rw [if_pos e, decide_eq_true e]
    show (((1 : ℤ) : ℝ) : EReal) = 1
    norm_num
  · rw [if_neg e, decide_eq_false e]
    show (((0 : ℤ) : ℝ) : EReal) = 0
    norm_num

/-- The lookup is the sum, over the four groups, of the table's row that the group's index word names. -/
theorem lookup_eq (w : Fin 4 → BitVec 32) (p : Vec Ideal S4x32 .f32) (tbl : Vec Ideal S32x64 .f32)
    (hp : ∀ (k : Fin 4) (l : Fin 32), p (ix2 k l) = if l.val / 8 = k.val then 1 else 0) (hw : ∀ t, (w t).toNat < 7)
    (j : Fin 64) :
    lookup w p tbl j
      = ∑ t : Fin 4, tbl (ix2 ⟨8 * t.val + (w t).toNat, by have := hw t; have := t.isLt; omega⟩ j) := by
  unfold lookup
  have hb : ∀ (t : Fin 4) (r : Fin 8), 8 * t.val + r.val < 32 := fun t r => by omega
  have hsplit : ∀ f : Fin 32 → EReal, ∑ l, f l = ∑ t : Fin 4, ∑ r : Fin 8, f ⟨8 * t.val + r.val, hb t r⟩ := by
    intro f
    rw [← Fintype.sum_prod_type']
    refine (Fintype.sum_equiv (finProdFinEquiv (m := 4) (n := 8)) _ _ fun x => ?_).symm
    exact congrArg f (Fin.ext (Nat.add_comm _ _))
  rw [hsplit]
  refine Finset.sum_congr rfl fun t _ => ?_
  have ht := hw t
  rw [Finset.sum_eq_single (⟨(w t).toNat, by omega⟩ : Fin 8)]
  · rw [hot_eq w p hp t _ _ ht, if_pos rfl]
    exact one_mul (M := EReal) _
  · intro r _ hr
    rw [hot_eq w p hp t _ _ ht, if_neg (fun e => hr (Fin.ext e.symm))]
    exact zero_mul (M₀ := EReal) _
  · intro hm
    exact absurd (Finset.mem_univ _) hm

end Cert.KernelIdeal.Block

end
-- ==== Proof.Spec.lean ====
/-
  What both programs compute, written over the ten argument arrays: the four rows that a position's index words choose, and
  the two nested layer normalisations.
-/
module

public import proofs.«01_k».proof.Proof.LayerNorm
public import Idealize.ShloMosaic.Lib.Pointwise

@[expose] public section

noncomputable section

namespace Cert.Spec

open Idealize.ShloMosaic Cert.LayerNorm

/-- Row `r` of table `t`, for the seven rows that the index words may name. -/
def row (x2 : (⟨2, ![30, 64]⟩ : Shape).Idx → EReal) (x3 : (⟨2, ![7, 64]⟩ : Shape).Idx → EReal)
    (x4 : (⟨2, ![24, 64]⟩ : Shape).Idx → EReal) (x5 : (⟨2, ![100000, 64]⟩ : Shape).Idx → EReal)
    (t : Fin 4) (r : Fin 7) (j : Fin 64) : EReal :=
  if t.val = 0 then x2 (ix2 ⟨r.val, by omega⟩ j)
  else if t.val = 1 then x3 (ix2 r j)
  else if t.val = 2 then x4 (ix2 ⟨r.val, by omega⟩ j)
  else x5 (ix2 ⟨r.val, by omega⟩ j)

/-- A row of the first table. -/
theorem row_first (x2 : (⟨2, ![30, 64]⟩ : Shape).Idx → EReal) (x3 : (⟨2, ![7, 64]⟩ : Shape).Idx → EReal)
    (x4 : (⟨2, ![24, 64]⟩ : Shape).Idx → EReal) (x5 : (⟨2, ![100000, 64]⟩ : Shape).Idx → EReal)
    (t : Fin 4) (r : Fin 7) (j : Fin 64)
    (h : t.val = 0) (i : Fin 30) (hi : i.val = r.val) : row x2 x3 x4 x5 t r j = x2 (ix2 i j) := by
  rw [row, if_pos h]
  exact congrArg (fun i => x2 (ix2 i j)) (Fin.ext hi.symm)

/-- A row of the second table. -/
theorem row_second (x2 : (⟨2, ![30, 64]⟩ : Shape).Idx → EReal) (x3 : (⟨2, ![7, 64]⟩ : Shape).Idx → EReal)
    (x4 : (⟨2, ![24, 64]⟩ : Shape).Idx → EReal) (x5 : (⟨2, ![100000, 64]⟩ : Shape).Idx → EReal)
    (t : Fin 4) (r : Fin 7) (j : Fin 64)
    (h : t.val = 1) (i : Fin 7) (hi : i.val = r.val) : row x2 x3 x4 x5 t r j = x3 (ix2 i j) := by
  rw [row, if_neg (by omega : ¬ t.val = 0), if_pos h]
  exact congrArg (fun i => x3 (ix2 i j)) (Fin.ext hi.symm)

/-- A row of the third table. -/
theorem row_third (x2 : (⟨2, ![30, 64]⟩ : Shape).Idx → EReal) (x3 : (⟨2, ![7, 64]⟩ : Shape).Idx → EReal)
    (x4 : (⟨2, ![24, 64]⟩ : Shape).Idx → EReal) (x5 : (⟨2, ![100000, 64]⟩ : Shape).Idx → EReal)
    (t : Fin 4) (r : Fin 7) (j : Fin 64)
    (h : t.val = 2) (i : Fin 24) (hi : i.val = r.val) : row x2 x3 x4 x5 t r j = x4 (ix2 i j) := by
  rw [row, if_neg (by omega : ¬ t.val = 0), if_neg (by omega : ¬ t.val = 1), if_pos h]
  exact congrArg (fun i => x4 (ix2 i j)) (Fin.ext hi.symm)

/-- A row of the fourth table. -/
theorem row_fourth (x2 : (⟨2, ![30, 64]⟩ : Shape).Idx → EReal) (x3 : (⟨2, ![7, 64]⟩ : Shape).Idx → EReal)
    (x4 : (⟨2, ![24, 64]⟩ : Shape).Idx → EReal) (x5 : (⟨2, ![100000, 64]⟩ : Shape).Idx → EReal)
    (t : Fin 4) (r : Fin 7) (j : Fin 64)
    (h : t.val = 3) (i : Fin 100000) (hi : i.val = r.val) : row x2 x3 x4 x5 t r j = x5 (ix2 i j) := by
  rw [row, if_neg (by omega : ¬ t.val = 0), if_neg (by omega : ¬ t.val = 1), if_neg (by omega : ¬ t.val = 2)]
  exact congrArg (fun i => x5 (ix2 i j)) (Fin.ext hi.symm)

/-- The row number that an index word holds. -/
def pick (w : BitVec 32) : Fin 7 := ⟨w.toNat % 7, Nat.mod_lt _ (by omega)⟩

/-- An index word in range is its row number. -/
theorem pick_val {w : BitVec 32} (h : w.toNat < 7) : (pick w).val = w.toNat := Nat.mod_eq_of_lt h

/-- The four rows chosen at position `(b, s)`. -/
def chosen (x1 : (⟨3, ![4096, 200, 4]⟩ : Shape).Idx → BitVec 32) (x2 : (⟨2, ![30, 64]⟩ : Shape).Idx → EReal)
    (x3 : (⟨2, ![7, 64]⟩ : Shape).Idx → EReal) (x4 : (⟨2, ![24, 64]⟩ : Shape).Idx → EReal)
    (x5 : (⟨2, ![100000, 64]⟩ : Shape).Idx → EReal) (b : Fin 4096) (s : Fin 200) (t : Fin 4) (j : Fin 64) : EReal :=
  row x2 x3 x4 x5 t (pick (x1 (ix3 b s t))) j

/-- The result at position `(b, s)`, feature `j`: the context plus the normalised sum of the chosen rows, normalised. -/
def out (x0 : (⟨3, ![4096, 200, 64]⟩ : Shape).Idx → EReal) (x1 : (⟨3, ![4096, 200, 4]⟩ : Shape).Idx → BitVec 32)
    (x2 : (⟨2, ![30, 64]⟩ : Shape).Idx → EReal) (x3 : (⟨2, ![7, 64]⟩ : Shape).Idx → EReal)
    (x4 : (⟨2, ![24, 64]⟩ : Shape).Idx → EReal) (x5 : (⟨2, ![100000, 64]⟩ : Shape).Idx → EReal)
    (x6 x7 x8 x9 : (⟨1, ![64]⟩ : Shape).Idx → EReal) (b : Fin 4096) (s : Fin 200) (j : Fin 64) : EReal :=
  nrm (cen fun k => x0 (ix3 b s k)
      + nrm (cen fun i => ∑ t, chosen x1 x2 x3 x4 x5 b s t i) (fun i => x6 (ix1 i)) (fun i => x7 (ix1 i)) k)
    (fun i => x8 (ix1 i)) (fun i => x9 (ix1 i)) j

/-- The same result with each chosen row centred before the sum. -/
theorem out_eq (x0 : (⟨3, ![4096, 200, 64]⟩ : Shape).Idx → EReal) (x1 : (⟨3, ![4096, 200, 4]⟩ : Shape).Idx → BitVec 32)
    (x2 : (⟨2, ![30, 64]⟩ : Shape).Idx → EReal) (x3 : (⟨2, ![7, 64]⟩ : Shape).Idx → EReal)
    (x4 : (⟨2, ![24, 64]⟩ : Shape).Idx → EReal) (x5 : (⟨2, ![100000, 64]⟩ : Shape).Idx → EReal)
    (x6 x7 x8 x9 : (⟨1, ![64]⟩ : Shape).Idx → EReal) (b : Fin 4096) (s : Fin 200) (j : Fin 64) :
    out x0 x1 x2 x3 x4 x5 x6 x7 x8 x9 b s j
      = nrm (cen fun k => x0 (ix3 b s k)
          + nrm (fun i => ∑ t, cen (chosen x1 x2 x3 x4 x5 b s t) i) (fun i => x6 (ix1 i)) (fun i => x7 (ix1 i)) k)
        (fun i => x8 (ix1 i)) (fun i => x9 (ix1 i)) j := by
  unfold out
  congr 2
  funext k
  rw [nrm_cen_sum]

end Cert.Spec

end
-- ==== Proof.Entry.lean ====
/-
  What the kernel's operand arrays hold when the blocks start: the joint table, the group matrix, the averaging matrix and
  the four reshaped vectors.
-/
module

public import proofs.«01_k».proof.Proof.Gen.KernelIdeal.Frame
public import proofs.«01_k».proof.Proof.Spec
public import Idealize.ShloMosaic.Lib.Claim
public import Idealize.ShloMosaic.Lib.StableHlo.ReadAt
public import Idealize.ShloMosaic.Lib.Tactic

@[expose] public section

set_option maxRecDepth 16384

noncomputable section

namespace Cert.KernelIdeal.Entry

open Cert.KernelIdeal Cert.KernelIdeal.Gen Cert.LayerNorm Cert.Spec Idealize.ShloMosaic Idealize.ShloMosaic.TcCoe

variable (m : (ℓ : Loc nD τ sig) → Buf (Elt Ideal) ℓ)

/-- The group matrix has 1 where the lane's group is the row, 0 elsewhere. -/
theorem group_apply (c : Dev nD) (k : Fin 4) (l : Fin 32) :
    V m c main_v22 (ix2 k l) = (if l.val / 8 = k.val then (1 : EReal) else 0) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at
  have hbit : ∀ (k : Fin 4) (l : Fin 32), (IntOp.cmpi CmpIPredicate.eq
        (Scalar.select
          (IntOp.andi
            (IntOp.cmpi CmpIPredicate.ne
              (if BitVec.ofNat 32 ↑l = 0 then (0 : BitVec 32) else if (BitVec.ofNat 32 ↑l).msb = true then -1 else 1)
              (if 8#32 = 0 then (0 : BitVec 32) else if BitVec.msb 8#32 = true then -1 else 1))
            (IntOp.cmpi CmpIPredicate.ne
              (IntOp.remsi ArithUnit.host (BitVec.ofNat 32 ↑l) 8#32) 0#32))
          (IntOp.subi (IntOp.divsi ArithUnit.host (BitVec.ofNat 32 ↑l) 8#32) 1#32)
          (IntOp.divsi ArithUnit.host (BitVec.ofNat 32 ↑l) 8#32))
        (BitVec.ofNat 32 ↑k)) = BitVec.ofBool (decide (l.val / 8 = k.val)) := by
    decide +kernel
  refine (congrArg (FloatOps.uitofp (F := Ideal) FTy.f32) (hbit k l)).trans ?_
  by_cases e : l.val / 8 = k.val
  · rw [if_pos e, decide_eq_true e]
    show (((1 : ℕ) : ℝ) : EReal) = 1
    norm_num
  · rw [if_neg e, decide_eq_false e]
    show (((0 : ℕ) : ℝ) : EReal) = 0
    norm_num

/-- The averaging matrix is one sixty-fourth everywhere. -/
theorem avg_apply (c : Dev nD) (k : Fin 64) (l : Fin 64) : V m c main_v23 (ix2 k l) = kap := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at
  exact ofBits_64th

/-- The first scale, as the one row of its reshaped array. -/
theorem scale1_apply (c : Dev nD) (l : Fin 64) :
    V m c main_v24 (ix2 0 l) = m ((c : Thread nD τ).loc main_arg6) (ix1 l) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at

/-- The first bias, as the one row of its reshaped array. -/
theorem bias1_apply (c : Dev nD) (l : Fin 64) :
    V m c main_v25 (ix2 0 l) = m ((c : Thread nD τ).loc main_arg7) (ix1 l) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at

/-- The second scale, as the one row of its reshaped array. -/
theorem scale2_apply (c : Dev nD) (l : Fin 64) :
    V m c main_v26 (ix2 0 l) = m ((c : Thread nD τ).loc main_arg8) (ix1 l) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at

/-- The second bias, as the one row of its reshaped array. -/
theorem bias2_apply (c : Dev nD) (l : Fin 64) :
    V m c main_v27 (ix2 0 l) = m ((c : Thread nD τ).loc main_arg9) (ix1 l) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at

/-- Row `8 t + r` of the joint table before centring is row `r` of table `t`. -/
theorem joint_apply (c : Dev nD) (t : Fin 4) (r : Fin 7) (h : 8 * t.val + r.val < 32) (j : Fin 64) :
    V m c main_v7 (ix2 ⟨8 * t.val + r.val, h⟩ j)
      = row (m ((c : Thread nD τ).loc main_arg2)) (m ((c : Thread nD τ).loc main_arg3))
          (m ((c : Thread nD τ).loc main_arg4)) (m ((c : Thread nD τ).loc main_arg5)) t r j := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_at
  after_reads_at
  have hr := r.isLt
  fin_vals t with ht
  · rw [dif_pos (show 8 * t.val + r.val < 8 by omega)]
    rw [dif_pos (show 8 * t.val + r.val < 7 by omega)]
    exact (row_first _ _ _ _ t r j ht _ (by show 8 * t.val + r.val = r.val; omega)).symm
  · rw [dif_neg (show ¬ 8 * t.val + r.val < 8 by omega)]
    rw [dif_pos (show 8 * t.val + r.val - 8 < 8 by omega)]
    rw [dif_pos (show 8 * t.val + r.val - 8 < 7 by omega)]
    exact (row_second _ _ _ _ t r j ht _ (by show 8 * t.val + r.val - 8 = r.val; omega)).symm
  · rw [dif_neg (show ¬ 8 * t.val + r.val < 8 by omega)]
    rw [dif_neg (show ¬ 8 * t.val + r.val - 8 < 8 by omega)]
    rw [dif_pos (show 8 * t.val + r.val - 8 - 8 < 8 by omega)]
    rw [dif_pos (show 8 * t.val + r.val - 8 - 8 < 7 by omega)]
    exact (row_third _ _ _ _ t r j ht _ (by show 8 * t.val + r.val - 8 - 8 = r.val; omega)).symm
  · rw [dif_neg (show ¬ 8 * t.val + r.val < 8 by omega)]
    rw [dif_neg (show ¬ 8 * t.val + r.val - 8 < 8 by omega)]
    rw [dif_neg (show ¬ 8 * t.val + r.val - 8 - 8 < 8 by omega)]
    rw [dif_pos (show 8 * t.val + r.val - 8 - 8 - 8 < 7 by omega)]
    exact (row_fourth _ _ _ _ t r j ht _ (by show 8 * t.val + r.val - 8 - 8 - 8 = r.val; omega)).symm

/-- A table of 32 rows less each row's mean, in the host's operations. -/
def centred (J : FVec Ideal S32x64 .f32) : FVec Ideal S32x64 .f32 :=
  subf J (broadcastInDim S32x64 ![0, 1] bcast_S32x1_S32x64_0_1
    (Host.divf (broadcastInDim S32x1 ![0] bcast_S32_S32x1_0
        (Host.reduceAdd J (constant S_ .f32 0x00000000#32) reducesTo_S32x64_S32_d1 h_S_))
      (broadcastInDim S32x1 ![] bcast_S_S32x1 (constant S_ .f32 0x42800000#32))))

/-- An entry of the centred table. -/
theorem centred_apply (J : FVec Ideal S32x64 .f32) (l : Fin 32) (j : Fin 64) :
    centred J (ix2 l j) = cen (fun i => J (ix2 l i)) j := by
  pointwise [centred]
  exact congrArg (J (ix2 l j) - ·) (div_64 _)

/-- The joint table is centred row by row. -/
theorem table_eq (c : Dev nD) : V m c main_v13 = centred (V m c main_v7) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_simp
  rfl

/-- Row `8 t + r` of the joint table is row `r` of table `t`, centred. -/
theorem table_apply (c : Dev nD) (t : Fin 4) (r : Fin 7) (h : 8 * t.val + r.val < 32) (j : Fin 64) :
    V m c main_v13 (ix2 ⟨8 * t.val + r.val, h⟩ j)
      = cen (row (m ((c : Thread nD τ).loc main_arg2)) (m ((c : Thread nD τ).loc main_arg3))
          (m ((c : Thread nD τ).loc main_arg4)) (m ((c : Thread nD τ).loc main_arg5)) t r) j := by
  rw [table_eq]
  refine (centred_apply _ _ j).trans ?_
  exact congrArg (fun f => cen f j) (funext fun i => joint_apply m c t r h i)

end Cert.KernelIdeal.Entry

end
-- ==== Proof.KernValue.lean ====
/-
  What the kernel's result array holds after the run: the specification's value at every position, when every index word
  is in range.
-/
module

public import proofs.«01_k».proof.Proof.Gen.KernelIdeal.Value
public import proofs.«01_k».proof.Proof.Block
public import proofs.«01_k».proof.Proof.Entry

@[expose] public section

set_option maxRecDepth 16384

noncomputable section

namespace Cert.KernelIdeal.KernValue

open Cert.KernelIdeal Cert.KernelIdeal.Gen Cert.KernelIdeal.Block Cert.KernelIdeal.Entry Cert.LayerNorm Cert.Spec
open Idealize.ShloMosaic Idealize.ShloMosaic.TcCoe Idealize.SL.Sem
open Idealize.ShloMosaic.Pipeline (Dat)

variable (m : (ℓ : Loc nD τ sig) → Buf (Elt Ideal) ℓ)

/-! ## The blocks -/

/-- The batch windows stand at block `t` of the first axis and at the start of the others. -/
theorem index_batch (t : Fin cfg0.N) :
    (win0_0.index t 0 = t.val ∧ win0_0.index t 1 = 0 ∧ win0_0.index t 2 = 0)
      ∧ (win0_1.index t 0 = t.val ∧ win0_1.index t 1 = 0 ∧ win0_1.index t 2 = 0)
      ∧ (win0_9.index t 0 = t.val ∧ win0_9.index t 1 = 0 ∧ win0_9.index t 2 = 0) :=
  (by decide +kernel : ∀ t : Fin grid0.N,
    (win0_0.index t 0 = t.val ∧ win0_0.index t 1 = 0 ∧ win0_0.index t 2 = 0)
      ∧ (win0_1.index t 0 = t.val ∧ win0_1.index t 1 = 0 ∧ win0_1.index t 2 = 0)
      ∧ (win0_9.index t 0 = t.val ∧ win0_9.index t 1 = 0 ∧ win0_9.index t 2 = 0)) t

/-- The other windows stand still. -/
theorem index_still (t : Fin cfg0.N) :
    (∀ a, win0_2.index t a = 0) ∧ (∀ a, win0_3.index t a = 0) ∧ (∀ a, win0_4.index t a = 0) ∧ (∀ a, win0_5.index t a = 0)
      ∧ (∀ a, win0_6.index t a = 0) ∧ (∀ a, win0_7.index t a = 0) ∧ (∀ a, win0_8.index t a = 0) :=
  (by decide +kernel : ∀ t : Fin grid0.N,
    (∀ a, win0_2.index t a = 0) ∧ (∀ a, win0_3.index t a = 0) ∧ (∀ a, win0_4.index t a = 0) ∧ (∀ a, win0_5.index t a = 0)
      ∧ (∀ a, win0_6.index t a = 0) ∧ (∀ a, win0_7.index t a = 0) ∧ (∀ a, win0_8.index t a = 0)) t

/-- The array row that row `b` of block `t` is. -/
def at_row (t : Fin cfg0.N) (b : Fin 64) : Fin 4096 :=
  ⟨t.val * 64 + b.val, by have h : t.val < 64 := lt_of_lt_of_eq t.isLt N_0; omega⟩

/-- The context block at point `t`. -/
theorem ctx_block (c : Dev nD) (t : Fin cfg0.N) (b : Fin 64) (s : Fin 200) (j : Fin 64) :
    iblk m c 0 t (ix3 b s j) = m ((c : Thread nD τ).loc main_arg0) (ix3 (at_row t b) s j) := by
  obtain ⟨⟨e0, e1, e2⟩, -, -⟩ := index_batch t
  refine Eq.trans (b := V m c main_arg0 (ix3 (at_row t b) s j)) ?_ (congrFun (V_main_arg0 m c) _)
  refine congrArg (V m c main_arg0) (funext fun a => Fin.ext ?_)
  match a with
  | ⟨0, _⟩ => show win0_0.index t 0 * 64 + 1 * b.val = t.val * 64 + b.val; omega
  | ⟨1, _⟩ => show win0_0.index t 1 * 200 + 1 * s.val = s.val; omega
  | ⟨2, _⟩ => show win0_0.index t 2 * 64 + 1 * j.val = j.val; omega

/-- The index block at point `t`. -/
theorem word_block (c : Dev nD) (t : Fin cfg0.N) (b : Fin 64) (s : Fin 200) (k : Fin 4) :
    iblk m c 1 t (ix3 b s k) = m ((c : Thread nD τ).loc main_arg1) (ix3 (at_row t b) s k) := by
  obtain ⟨-, ⟨e0, e1, e2⟩, -⟩ := index_batch t
  refine Eq.trans (b := V m c main_arg1 (ix3 (at_row t b) s k)) ?_ (congrFun (V_main_arg1 m c) _)
  refine congrArg (V m c main_arg1) (funext fun a => Fin.ext ?_)
  match a with
  | ⟨0, _⟩ => show win0_1.index t 0 * 64 + 1 * b.val = t.val * 64 + b.val; omega
  | ⟨1, _⟩ => show win0_1.index t 1 * 200 + 1 * s.val = s.val; omega
  | ⟨2, _⟩ => show win0_1.index t 2 * 4 + 1 * k.val = k.val; omega

/-- The group matrix is whole at every point. -/
theorem group_block (c : Dev nD) (t : Fin cfg0.N) (k : Fin 4) (l : Fin 32) :
    iblk m c 2 t (ix2 k l) = V m c main_v22 (ix2 k l) := by
  have e := (index_still t).1
  have e0 := e 0
  have e1 := e 1
  refine congrArg (V m c main_v22) (funext fun a => Fin.ext ?_)
  match a with
  | ⟨0, _⟩ => show win0_2.index t 0 * 4 + 1 * k.val = k.val; omega
  | ⟨1, _⟩ => show win0_2.index t 1 * 32 + 1 * l.val = l.val; omega

/-- The joint table is whole at every point. -/
theorem table_block (c : Dev nD) (t : Fin cfg0.N) (l : Fin 32) (j : Fin 64) :
    iblk m c 3 t (ix2 l j) = V m c main_v13 (ix2 l j) := by
  have e := (index_still t).2.1
  have e0 := e 0
  have e1 := e 1
  refine congrArg (V m c main_v13) (funext fun a => Fin.ext ?_)
  match a with
  | ⟨0, _⟩ => show win0_3.index t 0 * 32 + 1 * l.val = l.val; omega
  | ⟨1, _⟩ => show win0_3.index t 1 * 64 + 1 * j.val = j.val; omega

/-- The averaging matrix is whole at every point. -/
theorem avg_block (c : Dev nD) (t : Fin cfg0.N) (k j : Fin 64) : iblk m c 4 t (ix2 k j) = V m c main_v23 (ix2 k j) := by
  have e := (index_still t).2.2.1
  have e0 := e 0
  have e1 := e 1
  refine congrArg (V m c main_v23) (funext fun a => Fin.ext ?_)
  match a with
  | ⟨0, _⟩ => show win0_4.index t 0 * 64 + 1 * k.val = k.val; omega
  | ⟨1, _⟩ => show win0_4.index t 1 * 64 + 1 * j.val = j.val; omega

/-- The first scale is whole at every point. -/
theorem scale1_block (c : Dev nD) (t : Fin cfg0.N) (j : Fin 64) :
    iblk m c 5 t (ix2 0 j) = m ((c : Thread nD τ).loc main_arg6) (ix1 j) := by
  have e := (index_still t).2.2.2.1
  have e0 := e 0
  have e1 := e 1
  refine Eq.trans (b := V m c main_v24 (ix2 0 j)) ?_ (scale1_apply m c j)
  refine congrArg (V m c main_v24) (funext fun a => Fin.ext ?_)
  match a with
  | ⟨0, _⟩ => show win0_5.index t 0 * 1 + 1 * 0 = 0; omega
  | ⟨1, _⟩ => show win0_5.index t 1 * 64 + 1 * j.val = j.val; omega

/-- The first bias is whole at every point. -/
theorem bias1_block (c : Dev nD) (t : Fin cfg0.N) (j : Fin 64) :
    iblk m c 6 t (ix2 0 j) = m ((c : Thread nD τ).loc main_arg7) (ix1 j) := by
  have e := (index_still t).2.2.2.2.1
  have e0 := e 0
  have e1 := e 1
  refine Eq.trans (b := V m c main_v25 (ix2 0 j)) ?_ (bias1_apply m c j)
  refine congrArg (V m c main_v25) (funext fun a => Fin.ext ?_)
  match a with
  | ⟨0, _⟩ => show win0_6.index t 0 * 1 + 1 * 0 = 0; omega
  | ⟨1, _⟩ => show win0_6.index t 1 * 64 + 1 * j.val = j.val; omega

/-- The second scale is whole at every point. -/
theorem scale2_block (c : Dev nD) (t : Fin cfg0.N) (j : Fin 64) :
    iblk m c 7 t (ix2 0 j) = m ((c : Thread nD τ).loc main_arg8) (ix1 j) := by
  have e := (index_still t).2.2.2.2.2.1
  have e0 := e 0
  have e1 := e 1
  refine Eq.trans (b := V m c main_v26 (ix2 0 j)) ?_ (scale2_apply m c j)
  refine congrArg (V m c main_v26) (funext fun a => Fin.ext ?_)
  match a with
  | ⟨0, _⟩ => show win0_7.index t 0 * 1 + 1 * 0 = 0; omega
  | ⟨1, _⟩ => show win0_7.index t 1 * 64 + 1 * j.val = j.val; omega

/-- The second bias is whole at every point. -/
theorem bias2_block (c : Dev nD) (t : Fin cfg0.N) (j : Fin 64) :
    iblk m c 8 t (ix2 0 j) = m ((c : Thread nD τ).loc main_arg9) (ix1 j) := by
  have e := (index_still t).2.2.2.2.2.2
  have e0 := e 0
  have e1 := e 1
  refine Eq.trans (b := V m c main_v27 (ix2 0 j)) ?_ (bias2_apply m c j)
  refine congrArg (V m c main_v27) (funext fun a => Fin.ext ?_)
  match a with
  | ⟨0, _⟩ => show win0_8.index t 0 * 1 + 1 * 0 = 0; omega
  | ⟨1, _⟩ => show win0_8.index t 1 * 64 + 1 * j.val = j.val; omega

/-! ## What one point writes -/

/-- The specification's value at position `(b, s)`, feature `j`, of device `c`'s arguments. -/
def spec_at (c : Dev nD) (b : Fin 4096) (s : Fin 200) (j : Fin 64) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) b s j

/-- The whole array of the specification's values. -/
def spec (c : Dev nD) : Buf (Elt Ideal) ((c : Thread nD τ).loc main_v28) := fun i => spec_at m c (i 0) (i 1) (i 2)

/-- Every index word of device `c` is one of 0..6. -/
def InRange (c : Dev nD) : Prop :=
  ∀ (b : Fin 4096) (s : Fin 200) (k : Fin 4),
    BitVec.toNat (w := 32) (m ((c : Thread nD τ).loc main_arg1) (ix3 b s k)) < 7

/-- The lookup in a block is the sum of the four chosen rows, each centred. -/
theorem lookup_block (c : Dev nD) (h : InRange m c) (t : Fin cfg0.N) (b : Fin 64) (s : Fin 200) (j : Fin 64) :
    lookup (fun k => iblk m c 1 t (ix3 b s k)) (iblk m c 2 t) (iblk m c 3 t) j
      = ∑ k, cen (chosen (m ((c : Thread nD τ).loc main_arg1)) (m ((c : Thread nD τ).loc main_arg2))
          (m ((c : Thread nD τ).loc main_arg3)) (m ((c : Thread nD τ).loc main_arg4))
          (m ((c : Thread nD τ).loc main_arg5)) (at_row t b) s k) j := by
  have hw : ∀ k, BitVec.toNat (w := 32) (iblk m c 1 t (ix3 b s k)) < 7 := fun k => by
    rw [word_block]
    exact h _ _ _
  refine (lookup_eq _ _ _ (fun k l => (group_block m c t k l).trans (group_apply m c k l)) hw j).trans ?_
  refine Finset.sum_congr rfl fun k _ => (table_block m c t _ j).trans ?_
  have e : BitVec.toNat (w := 32) (iblk m c 1 t (ix3 b s k))
      = (pick (m ((c : Thread nD τ).loc main_arg1) (ix3 (at_row t b) s k))).val := by
    rw [pick_val (h _ _ _), word_block]
  have hb : 8 * k.val + (pick (m ((c : Thread nD τ).loc main_arg1) (ix3 (at_row t b) s k))).val < 32 := by
    have := k.isLt
    have := (pick (m ((c : Thread nD τ).loc main_arg1) (ix3 (at_row t b) s k))).isLt
    omega
  refine Eq.trans ?_ (table_apply m c k _ hb j)
  exact congrArg (fun l => V m c main_v13 (ix2 l j)) (Fin.ext (congrArg (8 * k.val + ·) e))

/-- What point `t`'s body computes at an index of its block is the specification's value there. -/
theorem body_apply (c : Dev nD) (h : InRange m c) (t : Fin cfg0.N) (b : Fin 64) (s : Fin 200) (j : Fin 64) :
    out0_9 (iblk m c 0 t) (iblk m c 1 t) (iblk m c 2 t) (iblk m c 3 t) (iblk m c 4 t) (iblk m c 5 t) (iblk m c 6 t)
        (iblk m c 7 t) (iblk m c 8 t) (ix3 b s j)
      = spec_at m c (at_row t b) s j := by
  have z3 : (![0, 0, 0] : Fin 3 → Nat) = fun _ => 0 := funext fun a => by fin_cases a <;> rfl
  have z2 : (![0, 0] : Fin 2 → Nat) = fun _ => 0 := funext fun a => by fin_cases a <;> rfl
  unfold out0_9
  rw [View.canon_unit_zero z3]
  rw [View.ld_unit_zero z2, View.ld_unit_zero z3, View.ld_unit_zero z3, View.ld_unit_zero z2, View.ld_unit_zero z2,
    View.ld_unit_zero z2, View.ld_unit_zero z2, View.ld_unit_zero z2, View.ld_unit_zero z2]
  rw [block_apply _ _ _ _ _ _ _ _ _ (fun k l => (avg_block m c t k l).trans (avg_apply m c k l))]
  unfold spec_at
  rw [out_eq]
  rw [show lookup _ _ _ = _ from funext (lookup_block m c h t b s)]
  simp only [ctx_block, scale1_block, bias1_block, scale2_block, bias2_block]

/-- What point `t` writes back is its block of the specification's array. -/
theorem flushed_eq (c : Dev nD) (h : InRange m c) (t : Fin cfg0.N) :
    (dats m 0 c).flushed 9 t = ((cfg0.win 9).blk t).view.read (Elt Ideal) (spec m c) := by
  rw [Value.flushed9]
  obtain ⟨-, -, ⟨e0, e1, e2⟩⟩ := index_batch t
  refine funext fun (i : S64x200x64.Idx) => ?_
  obtain ⟨b, s, j, rfl⟩ : ∃ b s j, i = ix3 b s j := ⟨i 0, i 1, i 2, by funext a; fin_cases a <;> rfl⟩
  refine (body_apply m c h t b s j).trans ?_
  refine congrArg (spec m c) (funext fun a => Fin.ext ?_) (a₁ := ix3 (at_row t b) s j)
  match a with
  | ⟨0, _⟩ => show t.val * 64 + b.val = win0_9.index t 0 * 64 + 1 * b.val; omega
  | ⟨1, _⟩ => show s.val = win0_9.index t 1 * 200 + 1 * s.val; omega
  | ⟨2, _⟩ => show j.val = win0_9.index t 2 * 64 + 1 * j.val; omega

/-! ## The whole array -/

/-- An index of the result array is in point `t`'s block exactly when its row is one of the block's 64. -/
theorem mem_block (t : Fin cfg0.N) (i : S4096x200x64.Idx) :
    i ∈ ((cfg0.win 9).blk t).view.set ↔ t.val * 64 ≤ (i 0).val ∧ (i 0).val < t.val * 64 + 64 := by
  show i ∈ ((View.whole main_v28).slice (win0_9.rect t)).set ↔ _
  rw [View.set_slice_whole, Rect.mem_set_unit]
  obtain ⟨-, -, ⟨e0, e1, e2⟩⟩ := index_batch t
  have h1 : (i 1).val < 200 := (i 1).isLt
  have h2 : (i 2).val < 64 := (i 2).isLt
  refine ⟨fun h => ?_, fun h a => ?_⟩
  · have : win0_9.index t 0 * 64 ≤ (i 0).val ∧ (i 0).val < win0_9.index t 0 * 64 + 64 := h 0
    omega
  · match a with
    | ⟨0, _⟩ => show win0_9.index t 0 * 64 ≤ (i 0).val ∧ (i 0).val < win0_9.index t 0 * 64 + 64; omega
    | ⟨1, _⟩ => show win0_9.index t 1 * 200 ≤ (i 1).val ∧ (i 1).val < win0_9.index t 1 * 200 + 200; omega
    | ⟨2, _⟩ => show win0_9.index t 2 * 64 ≤ (i 2).val ∧ (i 2).val < win0_9.index t 2 * 64 + 64; omega

/-- Every index of the result array is in some point's block. -/
theorem covered (i : S4096x200x64.Idx) :
    ∃ t : Fin cfg0.N, (cfg0.win 9).flush t = true ∧ i ∈ ((cfg0.win 9).blk t).view.set := by
  have h0 : (i 0).val < 4096 := (i 0).isLt
  have hN : cfg0.N = 64 := N_0
  refine ⟨⟨(i 0).val / 64, by omega⟩, flush0_9 _, ?_⟩
  rw [mem_block]
  dsimp only
  omega

/-- The result array ends holding the specification's values. -/
theorem array_eq (c : Dev nD) (h : InRange m c) : (dats m 0 c).arrAt 9 cfg0.N = spec m c :=
  (dats m 0 c).arrAt_eq_of_cover 9 (spec m c) (fun t _ => flushed_eq m c h t) covered

end Cert.KernelIdeal.KernValue

end
-- ==== Proof.RefTake.lean ====
/-
  What the reference's four table lookups read: the row of the table that the index word names, when every index word is
  in range.
-/
module

public import proofs.«01_k».proof.Proof.Gen.ReferenceIdeal.Read
public import proofs.«01_k».proof.Proof.Spec
public import Idealize.ShloMosaic.Lib.Claim
public import Idealize.ShloMosaic.Lib.ReduceAll
public import Idealize.ShloMosaic.Lib.Tactic

@[expose] public section

set_option maxRecDepth 16384

noncomputable section

namespace Cert.ReferenceIdeal.Take

open Cert.ReferenceIdeal Cert.ReferenceIdeal.Gen Cert.ReferenceIdeal.Read Cert.Spec Idealize.ShloMosaic

/-! ## Rows of a table -/

/-- The dimension numbers of a lookup of whole rows of a table `[N, C]` at index words `[A, B, 1]`. -/
abbrev rowDims (N C A B : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Such a lookup, read at an entry, is the table's entry at the row that the index word names, the word being a row
    number of the table. -/
theorem rows_apply {N C A B : ℕ}
    (wf : GatherDims.WF ⟨2, ![N, C]⟩ ⟨3, ![A, B, 1]⟩ ⟨3, ![A, B, C]⟩ [2] [0] [] [0] [] 2 ![1, C])
    (x : (⟨2, ![N, C]⟩ : Shape).Idx → EReal) (idx : IVec ⟨3, ![A, B, 1]⟩ 32) (b : Fin A) (s : Fin B) (j : Fin C) (r : Fin N)
    (hr : (idx (ix3 b s (0 : Fin 1))).toInt = r.val) :
    Host.gather (rowDims N C A B wf) x idx (ix3 b s j) = x (ix2 r j) := by
  unfold Host.gather
  refine congrArg x (funext fun a => Fin.ext ?_)
  match a with
  | ⟨0, _⟩ =>
    show (rowDims N C A B wf).start (ix3 b s j) idx 0 + (rowDims N C A B wf).batchCoord (ix3 b s j) 0
      + (rowDims N C A B wf).offCoord (ix3 b s j) 0 = r.val
    have hm : (0 : Fin 2) ∈ (rowDims N C A B wf).startIndexMap := List.mem_singleton.2 rfl
    have hs : (rowDims N C A B wf).siIdx (ix3 b s j)
        ⟨(rowDims N C A B wf).startIndexMap.idxOf 0, List.idxOf_lt_length_iff.2 hm⟩ = ix3 b s (0 : Fin 1) := by
      funext d
      refine Fin.ext ?_
      match d with
      | ⟨0, _⟩ => rfl
      | ⟨1, _⟩ => rfl
      | ⟨2, _⟩ => rfl
    have e : (rowDims N C A B wf).start (ix3 b s j) idx 0 = r.val := by
      unfold GatherDims.start
      rw [dif_pos hm, hs, hr]
      have := r.isLt
      show min ((r.val : ℤ)).toNat (N - 1) = r.val
      omega
    rw [e, GatherDims.batchCoord_eq_zero _ _ _ List.not_mem_nil,
      GatherDims.offCoord_eq_zero _ _ _ fun h => ((GatherDims.mem_sKept _ _).1 h).1 (List.mem_singleton.2 rfl)]
    omega
  | ⟨1, _⟩ =>
    show (rowDims N C A B wf).start (ix3 b s j) idx 1 + (rowDims N C A B wf).batchCoord (ix3 b s j) 1
      + (rowDims N C A B wf).offCoord (ix3 b s j) 1 = j.val
    have hm : (1 : Fin 2) ∉ (rowDims N C A B wf).startIndexMap := by
      intro h
      have h' : (1 : Fin 2) = 0 := List.mem_singleton.1 h
      exact absurd h' (by decide)
    have e : (rowDims N C A B wf).start (ix3 b s j) idx 1 = 0 := by
      unfold GatherDims.start
      rw [dif_neg hm]
    rw [e, GatherDims.batchCoord_eq_zero _ _ _ List.not_mem_nil]
    show 0 + 0 + j.val = j.val
    omega

/-! ## Words in range -/

/-- A word below seven is one of the seven words 0..6. -/
theorem small_word (w : BitVec 32) (h : w.toNat < 7) : ∃ r : Fin 7, w = BitVec.ofNat 32 r.val :=
  ⟨⟨w.toNat, h⟩, BitVec.eq_of_toNat_eq (by
    rw [BitVec.toNat_ofNat]
    show w.toNat = w.toNat % 2 ^ 32
    omega)⟩

/-- The wrapped index word of a word in range is the word. -/
theorem wrap_eq (w n : BitVec 32) (h : w.toNat < 7) : Scalar.select (IntOp.cmpi .slt w 0#32) (IntOp.addi w n) w = w := by
  have e : IntOp.cmpi .slt w 0#32 = 0#1 := by
    obtain ⟨r, rfl⟩ := small_word w h
    revert r
    decide +kernel
  rw [e]
  rfl

/-- The bounds test, for words in range, of a table of 30 rows, of 7, of 24 and of 100000. -/
theorem test_eq (w : BitVec 32) (h : w.toNat < 7) :
    IntOp.andi (IntOp.cmpi .sge w 0#32) (IntOp.cmpi .sle w 29#32) = 1#1
      ∧ IntOp.andi (IntOp.cmpi .sge w 0#32) (IntOp.cmpi .sle w 6#32) = 1#1
      ∧ IntOp.andi (IntOp.cmpi .sge w 0#32) (IntOp.cmpi .sle w 23#32) = 1#1
      ∧ IntOp.andi (IntOp.cmpi .sge w 0#32) (IntOp.cmpi .sle w 99999#32) = 1#1 := by
  obtain ⟨r, rfl⟩ := small_word w h
  revert h r
  decide +kernel

/-- A word in range, read signed, is its row number. -/
theorem toInt_eq (w : BitVec 32) (h : w.toNat < 7) : w.toInt = ((pick w).val : ℤ) := by
  obtain ⟨r, rfl⟩ := small_word w h
  revert h r
  decide +kernel

/-- Every index word is one of 0..6. -/
def InRange (x1 : IVec S4096x200x4 32) : Prop := ∀ (b : Fin 4096) (s : Fin 200) (k : Fin 4), (x1 (ix3 b s k)).toNat < 7

/-- Where every word passes the bounds test, the lookup's result is the row that the word names. -/
theorem take_of {N : ℕ}
    (wf : GatherDims.WF ⟨2, ![N, 64]⟩ S4096x200x1 S4096x200x64 [2] [0] [] [0] [] 2 ![1, 64])
    (x : (⟨2, ![N, 64]⟩ : Shape).Idx → EReal) (idx : IVec S4096x200x1 32) (test : IVec S4096x200x1 1) (init : IVec S_ 1)
    (hi : ∀ i, init i = 1#1) (ht : ∀ i, test i = 1#1) (i : S4096x200.Idx) (other : EReal) (b : Fin 4096) (s : Fin 200)
    (j : Fin 64) (r : Fin N) (hr : (idx (ix3 b s (0 : Fin 1))).toInt = r.val) :
    Scalar.select (Host.reduce IntOp.andi test init reducesTo_S4096x200x1_S4096x200_d2 h_S_ i)
        (Host.gather (rowDims N 64 4096 200 wf) x idx (ix3 b s j)) other
      = x (ix2 r j) := by
  rw [Host.reduce_andi_one test init _ _ i (hi _) ht, rows_apply wf x idx b s j r hr]
  rfl

variable (x1 : IVec S4096x200x4 32)

/-! ## The first lookup -/

/-- The index words of the first lookup. -/
theorem words_first (h : InRange x1) (b : Fin 4096) (s : Fin 200) (z : Fin 1) :
    val_main_call0_v5 (F := Ideal) x1 (ix3 b s z) = x1 (ix3 b s 0) := by
  pointwise [val_main_call0_v5, val_main_call0_v4, val_main_call0_v3, val_main_call0_v2, val_main_call0_v1,
    val_main_call0_v0, val_main_call0_c, val_main_call0_c_0, val_main_v1, val_main_v0]
  exact wrap_eq _ _ (h b s 0)

/-- The first lookup's words pass its bounds test. -/
theorem test_first (h : InRange x1) (i : S4096x200x1.Idx) : val_main_call0_v11 (F := Ideal) x1 i = 1#1 := by
  obtain ⟨b, s, z, rfl⟩ : ∃ b s z, i = ix3 b s z := ⟨i 0, i 1, i 2, by funext a; fin_cases a <;> rfl⟩
  rw [val_main_call0_v11_apply, val_main_call0_v7_apply, val_main_call0_v10_apply, words_first x1 h b s z]
  exact (test_eq _ (h b s 0)).1

/-- The first lookup reads the row that the index word names. -/
theorem take_first (h : InRange x1) (x : FVec Ideal S30x64 .f32) (b : Fin 4096) (s : Fin 200) (j : Fin 64) :
    val_main_v2 (F := Ideal) x1 x (ix3 b s j) = x (ix2 ⟨(pick (x1 (ix3 b s 0))).val, by omega⟩ j) := by
  rw [val_main_v2_apply, val_main_call0_v14_apply]
  refine take_of _ x (val_main_call0_v5 (F := Ideal) x1) (val_main_call0_v11 (F := Ideal) x1) _ (fun _ => rfl) (test_first x1 h) _ _ b s j _ ?_
  rw [words_first x1 h]
  exact toInt_eq _ (h b s 0)

/-! ## The second lookup -/

/-- The index words of the second lookup. -/
theorem words_second (h : InRange x1) (b : Fin 4096) (s : Fin 200) (z : Fin 1) :
    val_main_call1_v5 (F := Ideal) x1 (ix3 b s z) = x1 (ix3 b s 1) := by
  pointwise [val_main_call1_v5, val_main_call1_v4, val_main_call1_v3, val_main_call1_v2, val_main_call1_v1,
    val_main_call1_v0, val_main_call1_c, val_main_call1_c_0, val_main_v4, val_main_v3]
  exact wrap_eq _ _ (h b s 1)

/-- The second lookup's words pass its bounds test. -/
theorem test_second (h : InRange x1) (i : S4096x200x1.Idx) : val_main_call1_v11 (F := Ideal) x1 i = 1#1 := by
  obtain ⟨b, s, z, rfl⟩ : ∃ b s z, i = ix3 b s z := ⟨i 0, i 1, i 2, by funext a; fin_cases a <;> rfl⟩
  rw [val_main_call1_v11_apply, val_main_call1_v7_apply, val_main_call1_v10_apply, words_second x1 h b s z]
  exact (test_eq _ (h b s 1)).2.1

/-- The second lookup reads the row that the index word names. -/
theorem take_second (h : InRange x1) (x : FVec Ideal S7x64 .f32) (b : Fin 4096) (s : Fin 200) (j : Fin 64) :
    val_main_v5 (F := Ideal) x1 x (ix3 b s j) = x (ix2 ⟨(pick (x1 (ix3 b s 1))).val, by omega⟩ j) := by
  rw [val_main_v5_apply, val_main_call1_v14_apply]
  refine take_of _ x (val_main_call1_v5 (F := Ideal) x1) (val_main_call1_v11 (F := Ideal) x1) _ (fun _ => rfl) (test_second x1 h) _ _ b s j _ ?_
  rw [words_second x1 h]
  exact toInt_eq _ (h b s 1)

/-! ## The third lookup -/

/-- The index words of the third lookup. -/
theorem words_third (h : InRange x1) (b : Fin 4096) (s : Fin 200) (z : Fin 1) :
    val_main_call2_v5 (F := Ideal) x1 (ix3 b s z) = x1 (ix3 b s 2) := by
  pointwise [val_main_call2_v5, val_main_call2_v4, val_main_call2_v3, val_main_call2_v2, val_main_call2_v1,
    val_main_call2_v0, val_main_call2_c, val_main_call2_c_0, val_main_v7, val_main_v6]
  exact wrap_eq _ _ (h b s 2)

/-- The third lookup's words pass its bounds test. -/
theorem test_third (h : InRange x1) (i : S4096x200x1.Idx) : val_main_call2_v11 (F := Ideal) x1 i = 1#1 := by
  obtain ⟨b, s, z, rfl⟩ : ∃ b s z, i = ix3 b s z := ⟨i 0, i 1, i 2, by funext a; fin_cases a <;> rfl⟩
  rw [val_main_call2_v11_apply, val_main_call2_v7_apply, val_main_call2_v10_apply, words_third x1 h b s z]
  exact (test_eq _ (h b s 2)).2.2.1

/-- The third lookup reads the row that the index word names. -/
theorem take_third (h : InRange x1) (x : FVec Ideal S24x64 .f32) (b : Fin 4096) (s : Fin 200) (j : Fin 64) :
    val_main_v8 (F := Ideal) x1 x (ix3 b s j) = x (ix2 ⟨(pick (x1 (ix3 b s 2))).val, by omega⟩ j) := by
  rw [val_main_v8_apply, val_main_call2_v14_apply]
  refine take_of _ x (val_main_call2_v5 (F := Ideal) x1) (val_main_call2_v11 (F := Ideal) x1) _ (fun _ => rfl) (test_third x1 h) _ _ b s j _ ?_
  rw [words_third x1 h]
  exact toInt_eq _ (h b s 2)

/-! ## The fourth lookup -/

/-- The index words of the fourth lookup. -/
theorem words_fourth (h : InRange x1) (b : Fin 4096) (s : Fin 200) (z : Fin 1) :
    val_main_call3_v5 (F := Ideal) x1 (ix3 b s z) = x1 (ix3 b s 3) := by
  pointwise [val_main_call3_v5, val_main_call3_v4, val_main_call3_v3, val_main_call3_v2, val_main_call3_v1,
    val_main_call3_v0, val_main_call3_c, val_main_call3_c_0, val_main_v10, val_main_v9]
  exact wrap_eq _ _ (h b s 3)

/-- The fourth lookup's words pass its bounds test. -/
theorem test_fourth (h : InRange x1) (i : S4096x200x1.Idx) : val_main_call3_v11 (F := Ideal) x1 i = 1#1 := by
  obtain ⟨b, s, z, rfl⟩ : ∃ b s z, i = ix3 b s z := ⟨i 0, i 1, i 2, by funext a; fin_cases a <;> rfl⟩
  rw [val_main_call3_v11_apply, val_main_call3_v7_apply, val_main_call3_v10_apply, words_fourth x1 h b s z]
  exact (test_eq _ (h b s 3)).2.2.2

/-- The fourth lookup reads the row that the index word names. -/
theorem take_fourth (h : InRange x1) (x : FVec Ideal S100000x64 .f32) (b : Fin 4096) (s : Fin 200) (j : Fin 64) :
    val_main_v11 (F := Ideal) x1 x (ix3 b s j) = x (ix2 ⟨(pick (x1 (ix3 b s 3))).val, by omega⟩ j) := by
  rw [val_main_v11_apply, val_main_call3_v14_apply]
  refine take_of _ x (val_main_call3_v5 (F := Ideal) x1) (val_main_call3_v11 (F := Ideal) x1) _ (fun _ => rfl) (test_fourth x1 h) _ _ b s j _ ?_
  rw [words_fourth x1 h]
  exact toInt_eq _ (h b s 3)

end Cert.ReferenceIdeal.Take

end
-- ==== Proof.RefValue.lean ====
/-
  What the reference's result array holds: the specification's value at every position, when every index word is in range.
-/
module

public import proofs.«01_k».proof.Proof.RefTake

@[expose] public section

set_option maxRecDepth 16384

noncomputable section

namespace Cert.ReferenceIdeal.RefValue

open Cert.ReferenceIdeal Cert.ReferenceIdeal.Gen Cert.ReferenceIdeal.Read Cert.ReferenceIdeal.Take Cert.LayerNorm Cert.Spec
open Idealize.ShloMosaic

variable (x0 : FVec Ideal S4096x200x64 .f32) (x1 : IVec S4096x200x4 32) (x2 : FVec Ideal S30x64 .f32)
  (x3 : FVec Ideal S7x64 .f32) (x4 : FVec Ideal S24x64 .f32) (x5 : FVec Ideal S100000x64 .f32)
  (x6 x7 x8 x9 : FVec Ideal S64 .f32)

/-- The sum of the four lookups is the sum of the four chosen rows. -/
theorem sum_apply (h : InRange x1) (b : Fin 4096) (s : Fin 200) (j : Fin 64) :
    val_main_v17 (F := Ideal) x1 x2 x3 x4 x5 (ix3 b s j) = ∑ t, chosen x1 x2 x3 x4 x5 b s t j := by
  have h0 := take_first x1 h x2 b s j
  have h1 := take_second x1 h x3 b s j
  have h2 := take_third x1 h x4 b s j
  have h3 := take_fourth x1 h x5 b s j
  unfold val_main_v17 val_main_v16 val_main_v12 val_main_v13 val_main_v14 val_main_v15 val_main_cst
  generalize val_main_v2 (F := Ideal) x1 x2 = y0 at *
  generalize val_main_v5 (F := Ideal) x1 x3 = y1 at *
  generalize val_main_v8 (F := Ideal) x1 x4 = y2 at *
  generalize val_main_v11 (F := Ideal) x1 x5 = y3 at *
  pointwise []
  refine Finset.sum_congr rfl fun t _ => ?_
  unfold chosen
  fin_vals t with ht
  · rw [dif_pos (by omega), h0]
    exact (row_first _ _ _ _ t _ j ht _ (by rw [show t = 0 from Fin.ext ht])).symm
  · rw [dif_neg (by omega), dif_pos (by omega), h1]
    exact (row_second _ _ _ _ t _ j ht _ (by rw [show t = 1 from Fin.ext ht])).symm
  · rw [dif_neg (by omega), dif_neg (by omega), dif_pos (by omega), h2]
    exact (row_third _ _ _ _ t _ j ht _ (by rw [show t = 2 from Fin.ext ht])).symm
  · rw [dif_neg (by omega), dif_neg (by omega), dif_neg (by omega), h3]
    exact (row_fourth _ _ _ _ t _ j ht _ (by rw [show t = 3 from Fin.ext ht])).symm

/-- The variance's divisor, 64 less a correction of zero, is 64. -/
theorem count_eq : Ideal.ofBits .f32 0x42800000#32 - FloatOps.sitofp (F := Ideal) .f32 (0#32 : BitVec 32)
    = Ideal.ofBits .f32 0x42800000#32 := by
  rw [show FloatOps.sitofp (F := Ideal) .f32 (0#32 : BitVec 32) = ((0 : ℝ) : EReal) by
    show ((((0#32 : BitVec 32).toInt : ℤ) : ℝ) : EReal) = ((0 : ℝ) : EReal)
    norm_num]
  exact sub_zero (G := EReal) _

/-- The variance's divisor is positive. -/
theorem count_pos : (0 : EReal) < Ideal.ofBits .f32 0x42800000#32 := by
  rw [ofBits_64]
  exact_mod_cast (by norm_num : (0 : ℝ) < 64)

/-- The first layer norm. -/
theorem norm1_apply (b : Fin 4096) (s : Fin 200) (j : Fin 64) :
    val_main_v35 (F := Ideal) x1 x2 x3 x4 x5 x6 x7 (ix3 b s j)
      = nrm (cen fun i => val_main_v17 (F := Ideal) x1 x2 x3 x4 x5 (ix3 b s i)) (fun i => x6 (ix1 i)) (fun i => x7 (ix1 i)) j := by
  unfold val_main_v35 val_main_v34 val_main_v33 val_main_v32 val_main_v31 val_main_v30 val_main_v29 val_main_v28
    val_main_v27 val_main_v26 val_main_v25 val_main_cst_2 val_main_v24 val_main_v23 val_main_v22 val_main_v21 val_main_v20
    val_main_cst_1 val_main_v19 val_main_v18 val_main_cst_0 val_main_call4_v13 val_main_call4_cst_3 val_main_call4_v12
    val_main_call4_v11 val_main_call4_v10 val_main_call4_v9 val_main_call4_cst_2 val_main_call4_v8 val_main_call4_cst_1
    val_main_call4_v7 val_main_c val_main_call4_v6 val_main_call4_v5 val_main_call4_v4 val_main_call4_v3 val_main_call4_v2
    val_main_call4_cst_0 val_main_call4_v1 val_main_call4_v0 val_main_call4_cst
  generalize val_main_v17 (F := Ideal) x1 x2 x3 x4 x5 = y
  pointwise []
  rw [count_eq, if_pos count_pos]
  simp only [div_64]
  rfl

/-- The second layer norm. -/
theorem norm2_apply (b : Fin 4096) (s : Fin 200) (j : Fin 64) :
    val_main_v54 (F := Ideal) x0 x1 x2 x3 x4 x5 x6 x7 x8 x9 (ix3 b s j)
      = nrm (cen fun i => val_main_v36 (F := Ideal) x0 x1 x2 x3 x4 x5 x6 x7 (ix3 b s i)) (fun i => x8 (ix1 i))
          (fun i => x9 (ix1 i)) j := by
  unfold val_main_v54 val_main_v53 val_main_v52 val_main_v51 val_main_v50 val_main_v49 val_main_v48 val_main_v47
    val_main_v46 val_main_v45 val_main_v44 val_main_cst_6 val_main_v43 val_main_v42 val_main_v41 val_main_v40 val_main_v39
    val_main_cst_4 val_main_v38 val_main_v37 val_main_cst_3 val_main_call5_v13 val_main_call5_cst_3 val_main_call5_v12
    val_main_call5_v11 val_main_call5_v10 val_main_call5_v9 val_main_call5_cst_2 val_main_call5_v8 val_main_call5_cst_1
    val_main_call5_v7 val_main_c_5 val_main_call5_v6 val_main_call5_v5 val_main_call5_v4 val_main_call5_v3 val_main_call5_v2
    val_main_call5_cst_0 val_main_call5_v1 val_main_call5_v0 val_main_call5_cst
  generalize val_main_v36 (F := Ideal) x0 x1 x2 x3 x4 x5 x6 x7 = y
  pointwise []
  rw [count_eq, if_pos count_pos]
  simp only [div_64]
  rfl

/-- The reference's result at a position is the specification's value there. -/
theorem value_apply (h : InRange x1) (b : Fin 4096) (s : Fin 200) (j : Fin 64) :
    val_main_v54 (F := Ideal) x0 x1 x2 x3 x4 x5 x6 x7 x8 x9 (ix3 b s j) = out x0 x1 x2 x3 x4 x5 x6 x7 x8 x9 b s j := by
  rw [norm2_apply]
  unfold out
  refine congrArg (fun f => nrm (cen f) (fun i => x8 (ix1 i)) (fun i => x9 (ix1 i)) j) (funext fun k => ?_)
  refine (val_main_v36_apply (F := Ideal) x0 x1 x2 x3 x4 x5 x6 x7 (ix3 b s k)).trans ?_
  refine congrArg (x0 (ix3 b s k) + ·) ?_
  refine (norm1_apply x1 x2 x3 x4 x5 x6 x7 b s k).trans ?_
  exact congrArg (fun f => nrm (cen f) (fun i => x6 (ix1 i)) (fun i => x7 (ix1 i)) k)
    (funext fun i => sum_apply x1 x2 x3 x4 x5 h b s i)

end Cert.ReferenceIdeal.RefValue

end
-- ==== Proof.Range.lean ====
/-
  The precondition `in_range`, read: every index word is one of 0..6.
-/
module

public import proofs.«01_k».proof.Pre_in_range
public import proofs.«01_k».proof.Proof.Spec
public import Idealize.ShloMosaic.Lib.Claim
public import Idealize.ShloMosaic.Lib.ReduceAll
public import Idealize.ShloMosaic.Lib.Tactic

@[expose] public section

noncomputable section

namespace Cert.Pre_in_range.Range

open Cert.Pre_in_range Idealize.ShloMosaic

/-- The shape relations that the precondition states. -/
theorem facts : Cert.Pre_in_range.Facts where
  bcast_S_S4096x200x4 := by decide
  reducesTo_S4096x200x4_S_d0_1_2 := by decide
  h_S_ := by decide

/-- A word that is at least 0 and below 7, read signed, is one of 0..6. -/
theorem word_range (w : BitVec 32) (h : IntOp.andi (IntOp.cmpi .sge w 0#32) (IntOp.cmpi .slt w 7#32) = 1#1) : w.toNat < 7 := by
  have key : ∀ p q : Bool, IntOp.andi (BitVec.ofBool p) (BitVec.ofBool q) = 1#1 → p = true ∧ q = true := by decide
  obtain ⟨h0, h7⟩ := key _ _ h
  have l0 : (0#32 : BitVec 32).toInt ≤ w.toInt := BitVec.sle_iff_toInt_le.1 h0
  have l7 : w.toInt < (7#32 : BitVec 32).toInt := BitVec.slt_iff_toInt_lt.1 h7
  rw [show (0#32 : BitVec 32).toInt = 0 by decide] at l0
  rw [show (7#32 : BitVec 32).toInt = 7 by decide] at l7
  rw [BitVec.toInt_eq_toNat_cond] at l0 l7
  split at l0 <;> omega

/-- Where the precondition is set, every index word is one of 0..6. -/
theorem in_range [Facts] (x0 : FVec Ideal S4096x200x64 .f32) (x1 : IVec S4096x200x4 32) (x2 : FVec Ideal S30x64 .f32)
    (x3 : FVec Ideal S7x64 .f32) (x4 : FVec Ideal S24x64 .f32) (x5 : FVec Ideal S100000x64 .f32) (x6 x7 x8 x9 : FVec Ideal S64 .f32)
    (h : fn x0 x1 x2 x3 x4 x5 x6 x7 x8 x9 = fun _ => 1#1) (i : S4096x200x4.Idx) : (x1 i).toNat < 7 := by
  have : Subsingleton S_.Idx := ⟨fun a b => funext fun (d : Fin 0) => d.elim0⟩
  have e := Host.reduce_andi_all _ _ _ _ _ (congrFun h fun (d : Fin 0) => d.elim0) i
  exact word_range _ e

end Cert.Pre_in_range.Range

end
-- ==== Proof.lean ====
/-
  The proof of `Cert.Claim`: the frames, the idealization, and the equation of the kernel's result and the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernValue
public import proofs.«01_k».proof.Proof.RefValue
public import proofs.«01_k».proof.Proof.Range
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

attribute [local instance] Cert.Pre_in_range.Range.facts

/-- Under the precondition every index word of a device is one of 0..6. -/
theorem words (m : (ℓ : Loc Cert.KernelIdeal.nD Cert.KernelIdeal.τ Cert.KernelIdeal.sig) → Buf (Elt Ideal) ℓ)
    (h : Cert.Pre_KernelIdeal_in_range m) (c : Dev Cert.KernelIdeal.nD) : Cert.KernelIdeal.KernValue.InRange m c :=
  fun _ _ _ => Cert.Pre_in_range.Range.in_range _ _ _ _ _ _ _ _ _ _ (h c) _

/-- The reference runs and leaves its arguments as they were, every semaphore counter zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result and the reference's are the specification's values, so they are equal. -/
theorem algebraic : Cert.algebraic_KernelIdeal_ReferenceIdeal_pre_in_range := by
  intro m g m' g' hpre hagree
  refine ⟨fun c => Cert.KernelIdeal.KernValue.spec m c, ?_, ?_⟩
  · exact (θ_run Cert.KernelIdeal.defs _ _).mono
      (fun _ h c => ⟨(h c).1.trans (Cert.KernelIdeal.KernValue.array_eq m c (words m hpre c)), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    refine (Cert.ReferenceIdeal.Read.val_main_v54_eq (F := Ideal) (StableHlo.launchContents m' c)).trans ?_
    obtain ⟨h0, h1, h2, h3, h4, h5, h6, h7, h8, h9⟩ := hagree c
    rw [show StableHlo.launchContents m' c (Proc.devRef .tc Cert.ReferenceIdeal.main_arg0) = _ from h0,
      show StableHlo.launchContents m' c (Proc.devRef .tc Cert.ReferenceIdeal.main_arg1) = _ from h1,
      show StableHlo.launchContents m' c (Proc.devRef .tc Cert.ReferenceIdeal.main_arg2) = _ from h2,
      show StableHlo.launchContents m' c (Proc.devRef .tc Cert.ReferenceIdeal.main_arg3) = _ from h3,
      show StableHlo.launchContents m' c (Proc.devRef .tc Cert.ReferenceIdeal.main_arg4) = _ from h4,
      show StableHlo.launchContents m' c (Proc.devRef .tc Cert.ReferenceIdeal.main_arg5) = _ from h5,
      show StableHlo.launchContents m' c (Proc.devRef .tc Cert.ReferenceIdeal.main_arg6) = _ from h6,
      show StableHlo.launchContents m' c (Proc.devRef .tc Cert.ReferenceIdeal.main_arg7) = _ from h7,
      show StableHlo.launchContents m' c (Proc.devRef .tc Cert.ReferenceIdeal.main_arg8) = _ from h8,
      show StableHlo.launchContents m' c (Proc.devRef .tc Cert.ReferenceIdeal.main_arg9) = _ from h9]
    refine funext fun (i : Cert.ReferenceIdeal.S4096x200x64.Idx) => ?_
    obtain ⟨b, s, j, rfl⟩ : ∃ b s j, i = ix3 b s j := ⟨i 0, i 1, i 2, by funext a; fin_cases a <;> rfl⟩
    exact Cert.ReferenceIdeal.RefValue.value_apply _ _ _ _ _ _ _ _ _ _ (words m hpre c) b s j

/-- The claim. -/
theorem claim : Cert.Claim :=
  ⟨Cert.Kernel.Gen.facts, Cert.KernelIdeal.Gen.facts, Cert.ReferenceIdeal.Gen.facts, Cert.Pre_in_range.Range.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
